-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct [hPre_distinct : Cert.Pre_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_distinct.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct [hPre_distinct : Cert.Pre_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_distinct [hKernelIdeal : Cert.KernelIdeal.Facts] [hPre_distinct : Cert.Pre_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_distinct [hReferenceIdeal : Cert.ReferenceIdeal.Facts] [hPre_distinct : Cert.Pre_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_distinct [hKernelIdeal : Cert.KernelIdeal.Facts] [hReferenceIdeal : Cert.ReferenceIdeal.Facts] [hPre_distinct : Cert.Pre_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_distinct : Cert.Pre_distinct.Facts),
    quiescent_Kernel (hKernel := hKernel)
    ∧ quiescent_KernelIdeal (hKernelIdeal := hKernelIdeal)
    ∧ quiescent_KernelIdeal_pre_distinct (hKernelIdeal := hKernelIdeal) (hPre_distinct := hPre_distinct)
    ∧ quiescent_ReferenceIdeal (hReferenceIdeal := hReferenceIdeal)
    ∧ quiescent_ReferenceIdeal_pre_distinct (hReferenceIdeal := hReferenceIdeal) (hPre_distinct := hPre_distinct)
    ∧ preserves_Kernel_KernelIdeal
    ∧ algebraic_KernelIdeal_ReferenceIdeal_pre_distinct (hKernelIdeal := hKernelIdeal) (hReferenceIdeal := hReferenceIdeal) (hPre_distinct := hPre_distinct)
-- ==== Pre_distinct.lean ====
abbrev S10000x3 : Shape := ⟨2, ![10000, 3]⟩
abbrev S10000x1 : Shape := ⟨2, ![10000, 1]⟩
abbrev S10000 : Shape := ⟨1, ![10000]⟩
abbrev S1x10000 : Shape := ⟨2, ![1, 10000]⟩
abbrev S10000x10000 : Shape := ⟨2, ![10000, 10000]⟩

class Facts : Prop where
  slices_S10000x3_S10000x1_0_0 : S10000x3.Slices ![0, 0] S10000x1
  shapeCasts_S10000x1_S10000 : S10000x1.ShapeCasts S10000
  slices_S10000x3_S10000x1_0_1 : S10000x3.Slices ![0, 1] S10000x1
  slices_S10000x3_S10000x1_0_2 : S10000x3.Slices ![0, 2] S10000x1
  bcast_S10000_S10000x1_0 : S10000.BroadcastsInDim S10000x1 (![0] : Fin 1 → Fin S10000x1.rank)
  bcast_S10000_S1x10000_1 : S10000.BroadcastsInDim S1x10000 (![1] : Fin 1 → Fin S1x10000.rank)
  bcast_S10000x1_S10000x10000_0_1 : S10000x1.BroadcastsInDim S10000x10000 (![0, 1] : Fin 2 → Fin S10000x10000.rank)
  bcast_S1x10000_S10000x10000_0_1 : S1x10000.BroadcastsInDim S10000x10000 (![0, 1] : Fin 2 → Fin S10000x10000.rank)

variable [Facts]

def fn_part1 {F : FTy → Type} [FloatOps F] (main_v22 : IVec S10000x10000 1) (main_v23 : IVec S10000x10000 32) : IVec S10000x10000 1 :=
  let main_v24 : IVec S10000x10000 32 := iotaInDim S10000x10000 32 1
  let main_v25 : IVec S10000x10000 1 := cmpi .eq main_v23 main_v24
  let main_v26 : IVec S10000x10000 1 := ori main_v22 main_v25
  main_v26

def fn {F : FTy → Type} [FloatOps F] (main_arg0 : FVec F S10000x3 .f32) : IVec S10000x10000 1 :=
  let main_v0 : FVec F S10000x1 .f32 := (extractStridedSlice S10000x1 ![0, 0] · slices_S10000x3_S10000x1_0_0) main_arg0
  let main_v1 : FVec F S10000 .f32 := shapeCast S10000 main_v0 shapeCasts_S10000x1_S10000
  let main_v2 : FVec F S10000x1 .f32 := (extractStridedSlice S10000x1 ![0, 1] · slices_S10000x3_S10000x1_0_1) main_arg0
  let main_v3 : FVec F S10000 .f32 := shapeCast S10000 main_v2 shapeCasts_S10000x1_S10000
  let main_v4 : FVec F S10000x1 .f32 := (extractStridedSlice S10000x1 ![0, 2] · slices_S10000x3_S10000x1_0_2) main_arg0
  let main_v5 : FVec F S10000 .f32 := shapeCast S10000 main_v4 shapeCasts_S10000x1_S10000
  let main_v6 : FVec F S10000x1 .f32 := broadcastInDim S10000x1 ![0] bcast_S10000_S10000x1_0 main_v1
  let main_v7 : FVec F S1x10000 .f32 := broadcastInDim S1x10000 ![1] bcast_S10000_S1x10000_1 main_v1
  let main_v8 : FVec F S10000x10000 .f32 := broadcastInDim S10000x10000 ![0, 1] bcast_S10000x1_S10000x10000_0_1 main_v6
  let main_v9 : FVec F S10000x10000 .f32 := broadcastInDim S10000x10000 ![0, 1] bcast_S1x10000_S10000x10000_0_1 main_v7
  let main_v10 : IVec S10000x10000 1 := cmpf .une main_v8 main_v9
  let main_v11 : FVec F S10000x1 .f32 := broadcastInDim S10000x1 ![0] bcast_S10000_S10000x1_0 main_v3
  let main_v12 : FVec F S1x10000 .f32 := broadcastInDim S1x10000 ![1] bcast_S10000_S1x10000_1 main_v3
  let main_v13 : FVec F S10000x10000 .f32 := broadcastInDim S10000x10000 ![0, 1] bcast_S10000x1_S10000x10000_0_1 main_v11
  let main_v14 : FVec F S10000x10000 .f32 := broadcastInDim S10000x10000 ![0, 1] bcast_S1x10000_S10000x10000_0_1 main_v12
  let main_v15 : IVec S10000x10000 1 := cmpf .une main_v13 main_v14
  let main_v16 : IVec S10000x10000 1 := ori main_v10 main_v15
  let main_v17 : FVec F S10000x1 .f32 := broadcastInDim S10000x1 ![0] bcast_S10000_S10000x1_0 main_v5
  let main_v18 : FVec F S1x10000 .f32 := broadcastInDim S1x10000 ![1] bcast_S10000_S1x10000_1 main_v5
  let main_v19 : FVec F S10000x10000 .f32 := broadcastInDim S10000x10000 ![0, 1] bcast_S10000x1_S10000x10000_0_1 main_v17
  let main_v20 : FVec F S10000x10000 .f32 := broadcastInDim S10000x10000 ![0, 1] bcast_S1x10000_S10000x10000_0_1 main_v18
  let main_v21 : IVec S10000x10000 1 := cmpf .une main_v19 main_v20
  let main_v22 : IVec S10000x10000 1 := ori main_v16 main_v21
  let main_v23 : IVec S10000x10000 32 := iotaInDim S10000x10000 32 0
  fn_part1 (F := F) main_v22 main_v23
-- ==== Kernel.lean ====
abbrev S10000x3 : Shape := ⟨2, ![10000, 3]⟩
abbrev S_ : Shape := ⟨0, ![]⟩
abbrev S10240x4 : Shape := ⟨2, ![10240, 4]⟩
abbrev S1 : Shape := ⟨1, ![1]⟩
abbrev S2 : Shape := ⟨1, ![2]⟩
abbrev S1x1 : Shape := ⟨2, ![1, 1]⟩
abbrev S128x4 : Shape := ⟨2, ![128, 4]⟩
abbrev S10240 : Shape := ⟨1, ![10240]⟩
abbrev S128 : Shape := ⟨1, ![128]⟩
abbrev S128x10240 : Shape := ⟨2, ![128, 10240]⟩
abbrev S128x1 : Shape := ⟨2, ![128, 1]⟩
abbrev S1x10240 : Shape := ⟨2, ![1, 10240]⟩
abbrev S10240x1 : Shape := ⟨2, ![10240, 1]⟩
abbrev S10240x3 : Shape := ⟨2, ![10240, 3]⟩
abbrev S1x10240x1 : Shape := ⟨3, ![1, 10240, 1]⟩
abbrev S1x1x1 : Shape := ⟨3, ![1, 1, 1]⟩

abbrev nBuf : Space → Nat
  | .hbm => 11
  | .vmem => 6
  | .smem => 0
  | _ => 0

abbrev bufTy : (tb : Table) → Fin (tcTables nBuf tb) → BufTy
  | .hbm, ⟨0, _⟩ => ⟨S10000x3, .f32⟩
  | .hbm, ⟨1, _⟩ => ⟨S_, .f32⟩
  | .hbm, ⟨2, _⟩ => ⟨S10240x4, .f32⟩
  | .hbm, ⟨3, _⟩ => ⟨S_, .i32⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S2, .i32⟩
  | .hbm, ⟨8, _⟩ => ⟨S10240x4, .f32⟩
  | .hbm, ⟨9, _⟩ => ⟨S1x1, .f32⟩
  | .hbm, ⟨10, _⟩ => ⟨S_, .f32⟩
  | .local _ .vmem, ⟨0, _⟩ => ⟨S10240x4, .f32⟩
  | .local _ .vmem, ⟨1, _⟩ => ⟨S128x4, .f32⟩
  | .local _ .vmem, ⟨2, _⟩ => ⟨S128x4, .f32⟩
  | .local _ .vmem, ⟨3, _⟩ => ⟨S1x1, .f32⟩
  | .local _ .vmem, ⟨4, _⟩ => ⟨S10240x4, .f32⟩
  | .local _ .vmem, ⟨5, _⟩ => ⟨S10240x4, .f32⟩
  | _, _ => ⟨S10000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![81], ![false]⟩

def k0_cond2 (i : grid0.Coords) : BitVec 1 :=
  let arg0 : BitVec 32 := BitVec.ofNat 32 (i 0).val
  let c80_i32 : BitVec 32 := 80#32
  let v3 : BitVec 1 := Scalar.cmpi .slt arg0 c80_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c128_i32 : BitVec 32 := 128#32
  let v27 : BitVec 32 := Scalar.muli arg0 c128_i32
  let v193 : Index := Scalar.indexCast v27
  let c0_50 : Index := 0#32
  ![v193.toNat, 0]
def k0_cond3 (i : grid0.Coords) : BitVec 1 :=
  let arg0 : BitVec 32 := BitVec.ofNat 32 (i 0).val
  let c80_i32_2 : BitVec 32 := 80#32
  let v6 : BitVec 1 := Scalar.cmpi .eq arg0 c80_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c79_i32 : BitVec 32 := 79#32
  let v0 : BitVec 32 := Scalar.minsi arg0 c79_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10240x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S10000x3 : Shape := ⟨2, ![10000, 3]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S10000x10000 : Shape := ⟨2, ![10000, 10000]⟩
abbrev S3x10000 : Shape := ⟨2, ![3, 10000]⟩
abbrev S10000x10 : Shape := ⟨2, ![10000, 10]⟩
abbrev S10000x9 : Shape := ⟨2, ![10000, 9]⟩
abbrev S90000 : Shape := ⟨1, ![90000]⟩
abbrev S180000 : Shape := ⟨1, ![180000]⟩
abbrev S180000x1 : Shape := ⟨2, ![180000, 1]⟩
abbrev S90000x1 : Shape := ⟨2, ![90000, 1]⟩
abbrev S180000x3 : Shape := ⟨2, ![180000, 3]⟩

abbrev nBuf : Space → Nat
  | .hbm => 100
  | .vmem => 0
  | .smem => 0
  | _ => 0

abbrev bufTy : (tb : Table) → Fin (tcTables nBuf tb) → BufTy
  | .hbm, ⟨0, _⟩ => ⟨S10000x3, .f32⟩
  | .hbm, ⟨1, _⟩ => ⟨S10000x3, .f32⟩
  | .hbm, ⟨2, _⟩ => ⟨S_, .f32⟩
  | .hbm, ⟨3, _⟩ => ⟨S10000, .f32⟩
  | .hbm, ⟨4, _⟩ => ⟨S10000x1, .f32⟩
  | .hbm, ⟨5, _⟩ => ⟨S1x10000, .f32⟩
  | .hbm, ⟨6, _⟩ => ⟨S10000x10000, .f32⟩
  | .hbm, ⟨7, _⟩ => ⟨S10000x10000, .f32⟩
  | .hbm, ⟨8, _⟩ => ⟨S10000x10000, .f32⟩
  | .hbm, ⟨9, _⟩ => ⟨S3x10000, .f32⟩
  | .hbm, ⟨10, _⟩ => ⟨S10000x10000, .f32⟩
  | .hbm, ⟨11, _⟩ => ⟨S_, .f32⟩
  | .hbm, ⟨12, _⟩ => ⟨S10000x10000, .f32⟩
  | .hbm, ⟨13, _⟩ => ⟨S10000x10000, .f32⟩
  | .hbm, ⟨14, _⟩ => ⟨S10000x10000, .f32⟩
  | .hbm, ⟨15, _⟩ => ⟨S10000x10000, .f32⟩
  | .hbm, ⟨16, _⟩ => ⟨S10000x10, .f32⟩
  | .hbm, ⟨17, _⟩ => ⟨S10000x10, .i32⟩
  | .hbm, ⟨18, _⟩ => ⟨S10000x9, .i32⟩
  | .hbm, ⟨19, _⟩ => ⟨S10000, .i32⟩
  | .hbm, ⟨20, _⟩ => ⟨S10000x9, .i32⟩
  | .hbm, ⟨21, _⟩ => ⟨S90000, .i32⟩
  | .hbm, ⟨22, _⟩ => ⟨S90000, .i32⟩
  | .hbm, ⟨23, _⟩ => ⟨S180000, .i32⟩
  | .hbm, ⟨24, _⟩ => ⟨S180000, .i32⟩
  | .hbm, ⟨25, _⟩ => ⟨S_, .f32⟩
  | .hbm, ⟨26, _⟩ => ⟨S180000, .f32⟩
  | .hbm, ⟨27, _⟩ => ⟨S_, .f32⟩
  | .hbm, ⟨28, _⟩ => ⟨S10000, .f32⟩
  | .hbm, ⟨29, _⟩ => ⟨S180000x1, .i32⟩
  | .hbm, ⟨30, _⟩ => ⟨S10000, .f32⟩
  | .hbm, ⟨31, _⟩ => ⟨S_, .i32⟩
  | .hbm, ⟨32, _⟩ => ⟨S90000, .i32⟩
  | .hbm, ⟨33, _⟩ => ⟨S90000, .i1⟩
  | .hbm, ⟨34, _⟩ => ⟨S_, .i32⟩
  | .hbm, ⟨35, _⟩ => ⟨S90000, .i32⟩
  | .hbm, ⟨36, _⟩ => ⟨S90000, .i32⟩
  | .hbm, ⟨37, _⟩ => ⟨S90000, .i32⟩
  | .hbm, ⟨38, _⟩ => ⟨S90000x1, .i32⟩
  | .hbm, ⟨39, _⟩ => ⟨S90000, .f32⟩
  | .hbm, ⟨40, _⟩ => ⟨S_, .i32⟩
  | .hbm, ⟨41, _⟩ => ⟨S90000, .i32⟩
  | .hbm, ⟨42, _⟩ => ⟨S90000, .i1⟩
  | .hbm, ⟨43, _⟩ => ⟨S_, .i32⟩
  | .hbm, ⟨44, _⟩ => ⟨S90000, .i32⟩
  | .hbm, ⟨45, _⟩ => ⟨S90000, .i32⟩
  | .hbm, ⟨46, _⟩ => ⟨S90000, .i32⟩
  | .hbm, ⟨47, _⟩ => ⟨S90000x1, .i32⟩
  | .hbm, ⟨48, _⟩ => ⟨S90000, .f32⟩
  | .hbm, ⟨49, _⟩ => ⟨S_, .f32⟩
  | .hbm, ⟨50, _⟩ => ⟨S90000, .f32⟩
  | .hbm, ⟨51, _⟩ => ⟨S90000, .i1⟩
  | .hbm, ⟨52, _⟩ => ⟨S_, .f32⟩
  | .hbm, ⟨53, _⟩ => ⟨S90000, .f32⟩
  | .hbm, ⟨54, _⟩ => ⟨S90000, .f32⟩
  | .hbm, ⟨55, _⟩ => ⟨S_, .f32⟩
  | .hbm, ⟨56, _⟩ => ⟨S90000, .f32⟩
  | .hbm, ⟨57, _⟩ => ⟨S90000, .f32⟩
  | .hbm, ⟨58, _⟩ => ⟨S_, .f32⟩
  | .hbm, ⟨59, _⟩ => ⟨S90000, .f32⟩
  | .hbm, ⟨60, _⟩ => ⟨S90000, .i1⟩
  | .hbm, ⟨61, _⟩ => ⟨S_, .f32⟩
  | .hbm, ⟨62, _⟩ => ⟨S90000, .f32⟩
  | .hbm, ⟨63, _⟩ => ⟨S90000, .f32⟩
  | .hbm, ⟨64, _⟩ => ⟨S_, .f32⟩
  | .hbm, ⟨65, _⟩ => ⟨S90000, .f32⟩
  | .hbm, ⟨66, _⟩ => ⟨S90000, .f32⟩
  | .hbm, ⟨67, _⟩ => ⟨S180000, .f32⟩
  | .hbm, ⟨68, _⟩ => ⟨S_, .f32⟩
  | .hbm, ⟨69, _⟩ => ⟨S10000x3, .f32⟩
  | .hbm, ⟨70, _⟩ => ⟨S180000x1, .f32⟩
  | .hbm, ⟨71, _⟩ => ⟨S_, .i32⟩
  | .hbm, ⟨72, _⟩ => ⟨S180000, .i32⟩
  | .hbm, ⟨73, _⟩ => ⟨S180000, .i1⟩
  | .hbm, ⟨74, _⟩ => ⟨S_, .i32⟩
  | .hbm, ⟨75, _⟩ => ⟨S180000, .i32⟩
  | .hbm, ⟨76, _⟩ => ⟨S180000, .i32⟩
  | .hbm, ⟨77, _⟩ => ⟨S180000, .i32⟩
  | .hbm, ⟨78, _⟩ => ⟨S180000x1, .i32⟩
  | .hbm, ⟨79, _⟩ => ⟨S180000x3, .f32⟩
  | .hbm, ⟨80, _⟩ => ⟨S180000x3, .f32⟩
  | .hbm, ⟨81, _⟩ => ⟨S180000x3, .f32⟩
  | .hbm, ⟨82, _⟩ => ⟨S_, .i32⟩
  | .hbm, ⟨83, _⟩ => ⟨S180000, .i32⟩
  | .hbm, ⟨84, _⟩ => ⟨S180000, .i1⟩
  | .hbm, ⟨85, _⟩ => ⟨S_, .i32⟩
  | .hbm, ⟨86, _⟩ => ⟨S180000, .i32⟩
  | .hbm, ⟨87, _⟩ => ⟨S180000, .i32⟩
  | .hbm, ⟨88, _⟩ => ⟨S180000, .i32⟩
  | .hbm, ⟨89, _⟩ => ⟨S180000x1, .i32⟩
  | .hbm, ⟨90, _⟩ => ⟨S10000x3, .f32⟩
  | .hbm, ⟨91, _⟩ => ⟨S10000x3, .f32⟩
  | .hbm, ⟨92, _⟩ => ⟨S10000x3, .f32⟩
  | .hbm, ⟨93, _⟩ => ⟨S_, .f32⟩
  | .hbm, ⟨94, _⟩ => ⟨S10000, .f32⟩
  | .hbm, ⟨95, _⟩ => ⟨S10000, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_values : Ref sig .tc := ⟨.hbm, 16, rfl⟩
abbrev main_indices : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_v24 : Ref sig .tc := ⟨.hbm, 32, rfl⟩
abbrev main_v25 : Ref sig .tc := ⟨.hbm, 33, rfl⟩
abbrev main_c_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_4 : Ref sig .tc := ⟨.hbm, 40, rfl⟩
abbrev main_v31 : Ref sig .tc := ⟨.hbm, 41, rfl⟩
abbrev main_v32 : Ref sig .tc := ⟨.hbm, 42, rfl⟩
abbrev main_c_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_12 : Ref sig .tc := ⟨.hbm, 68, rfl⟩
abbrev main_v51 : Ref sig .tc := ⟨.hbm, 69, rfl⟩
abbrev main_v52 : Ref sig .tc := ⟨.hbm, 70, rfl⟩
abbrev main_c_13 : Ref sig .tc := ⟨.hbm, 71, rfl⟩
abbrev main_v53 : Ref sig .tc := ⟨.hbm, 72, rfl⟩
abbrev main_v54 : Ref sig .tc := ⟨.hbm, 73, rfl⟩
abbrev main_c_14 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_15 : Ref sig .tc := ⟨.hbm, 82, rfl⟩
abbrev main_v62 : Ref sig .tc := ⟨.hbm, 83, rfl⟩
abbrev main_v63 : Ref sig .tc := ⟨.hbm, 84, rfl⟩
abbrev main_c_16 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_call2_v0 : Ref sig .tc := ⟨.hbm, 92, rfl⟩
abbrev main_call2_cst : Ref sig .tc := ⟨.hbm, 93, rfl⟩
abbrev main_call2_v1 : Ref sig .tc := ⟨.hbm, 94, rfl⟩
abbrev main_v70 : Ref sig .tc := ⟨.hbm, 95, rfl⟩
abbrev main_cst_17 : Ref sig .tc := ⟨.hbm, 96, rfl⟩
abbrev main_v71 : Ref sig .tc := ⟨.hbm, 97, rfl⟩
abbrev main_cst_18 : Ref sig .tc := ⟨.hbm, 98, rfl⟩
abbrev main_v72 : Ref sig .tc := ⟨.hbm, 99, rfl⟩

abbrev nD : Nat := 1
abbrev τ : Topo := Topo.v7x

variable {F : FTy → Type} [FloatOps F]
-- ==== Proof.Body.lean ====
/-
  The kernel body of `KernelIdeal`, run: what one grid point leaves in the two scratch arrays and in the result.

  The body has three shapes over its 81 points: point 0 zeroes the second scratch and does a row block; points 1 … 79 do
  a row block; point 80 combines the two scratches into the loss. `rowsAt`, `accAt` name what a row block stores.
-/
module

public import proofs.«01_k».proof.Proof.Gen.KernelIdeal.Skeleton
public import proofs.«01_k».proof.Proof.Gen.KernelIdeal.Frame
public import Idealize.ShloMosaic.Lib.WritesUnit
public import Idealize.ShloMosaic.Lib.WholeRead
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What a row block computes -/

/-- The column number of each entry of a row block. -/
def colOf : IVec S128x10240 32 := iota .tc S128x10240 32 [1] iota_S128x10240_d1_w32

/-- The neighbour indicator of the row block of grid coordinate `w`: the sum of the nine one-hot selections, with the
    rows past the last point zeroed. -/
def pickOf (w : BitVec 32) (x0 : Vec F S10240x4 .f32) (x1 : Vec F S128x4 .f32) : FVec F S128x10240 .f32 :=
  k0_pay27 colOf (Scalar.muli w 128#32)
    (k0_pay24 colOf (k0_pay16 colOf (k0_pay9 w x0 x1) (k0_pay10 w x0 x1)) (k0_pay17 colOf (k0_pay10 w x0 x1)) (k0_pay18 colOf (k0_pay10 w x0 x1)))
    (k0_pay25 colOf (k0_pay17 colOf (k0_pay10 w x0 x1)) (k0_pay18 colOf (k0_pay10 w x0 x1)))
    (k0_pay26 colOf (k0_pay17 colOf (k0_pay10 w x0 x1)) (k0_pay18 colOf (k0_pay10 w x0 x1)))
    1073741824#32

/-- The rows a row block stores in the first scratch: the indicator times the points. -/
def rowsAt (w : BitVec 32) (x0 : Vec F S10240x4 .f32) (x1 : Vec F S128x4 .f32) : FVec F S128x4 .f32 :=
  k0_pay2 (k0_pay29 (k0_pay5 x0) colOf (Scalar.muli w 128#32)
    (k0_pay24 colOf (k0_pay16 colOf (k0_pay9 w x0 x1) (k0_pay10 w x0 x1)) (k0_pay17 colOf (k0_pay10 w x0 x1)) (k0_pay18 colOf (k0_pay10 w x0 x1)))
    (k0_pay25 colOf (k0_pay17 colOf (k0_pay10 w x0 x1)) (k0_pay18 colOf (k0_pay10 w x0 x1)))
    (k0_pay26 colOf (k0_pay17 colOf (k0_pay10 w x0 x1)) (k0_pay18 colOf (k0_pay10 w x0 x1)))
    1073741824#32)

/-- The second scratch after a row block, from what it held: the transposed indicator times the block's rows is added. -/
def accAt (w : BitVec 32) (x0 : Vec F S10240x4 .f32) (x1 : Vec F S128x4 .f32) (s : Vec F S10240x4 .f32) : FVec F S10240x4 .f32 :=
  k0_pay3 (pickOf w x0 x1) (k0_pay28 (k0_pay6 x1)) s

/-! ## The branch conditions, over the grid -/

/-- The condition of the body's first branch, from the grid coordinate. -/
abbrev isFirst (i : grid0.Coords) : Prop := (Scalar.cmpi .ne (Scalar.extui (Scalar.cmpi .eq (BitVec.ofNat 32 (i 0).val) 0#32)) 0#32) = 1#1
/-- The first branch is taken at point 0. -/
theorem isFirst_iff : ∀ t : Fin cfg0.N, isFirst (grid0.coords t) ↔ t.val = 0 :=
  (by decide +kernel : ∀ t : Fin grid0.N, isFirst (grid0.coords t) ↔ t.val = 0)
/-- The second branch is taken before point 80. -/
theorem isRows_iff : ∀ t : Fin cfg0.N, k0_cond2 (grid0.coords t) = 1#1 ↔ t.val < 80 :=
  (by decide +kernel : ∀ t : Fin grid0.N, k0_cond2 (grid0.coords t) = 1#1 ↔ t.val < 80)
/-- The third branch is taken at point 80. -/
theorem isLast_iff : ∀ t : Fin cfg0.N, k0_cond3 (grid0.coords t) = 1#1 ↔ t.val = 80 :=
  (by decide +kernel : ∀ t : Fin grid0.N, k0_cond3 (grid0.coords t) = 1#1 ↔ t.val = 80)
/-- The rows the body stores at a point start at 128 times the point. -/
theorem off1_eq : ∀ t : Fin cfg0.N, k0_off1 (grid0.coords t) = ![128 * t.val, 0] :=
  (by decide +kernel : ∀ t : Fin grid0.N, k0_off1 (grid0.coords t) = ![128 * t.val, 0])

/-! ## The body's three runs -/

/-- A load of a whole memref's own extent reads what the memref holds. -/
theorem load_whole {sp : Space} {s : Shape} {e : EltTy} {mr : Memref sig .tc sp s e} (h : mr.IsWhole) (X : s.Idx → Elt F e)
    {off : Fin s.rank → ℕ} (inb : ∀ a, off a + s.size a ≤ s.size a) :
    View.readAt (Elt F) mr.view (Rect.unit off s.size inb).toLoadRect (h.unread X) = X := by
  rw [View.readAt_full, h.read_unread]

set_option maxHeartbeats 1000000 in
/-- A row block at a point other than the first: the first scratch has the block's rows written over what it held, the
    second is `accAt` of what it held; the inputs and the result's buffer are as they were. -/
theorem run_rows (c : Dev nD) (i : grid0.Coords) (arg1 : Memref sig .tc .vmem S10240x4 .f32) (harg1 : arg1.IsWhole) (arg2 : Memref sig .tc .vmem S128x4 .f32) (harg2 : arg2.IsWhole) (arg3 : Memref sig .tc .vmem S1x1 .f32) (harg3 : arg3.IsWhole) (arg4 : Memref sig .tc .vmem S10240x4 .f32) (harg4 : arg4.IsWhole) (arg5 : Memref sig .tc .vmem S10240x4 .f32) (harg5 : arg5.IsWhole)
    (hc0 : ¬isFirst i) (hc1 : k0_cond2 i = 1#1) (hc2 : ¬k0_cond3 i = 1#1)
    (x0 : Vec F S10240x4 .f32) (x1 : Vec F S128x4 .f32) (x2 : Vec F S1x1 .f32) (d4 s5 : Vec F S10240x4 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare d4 ∗ owns (c : Thread nD τ) arg5 fullShare s5
        ∗ (iprop(owns (c : Thread nD τ) arg1 fullShare x0 ∗ owns (c : Thread nD τ) arg2 fullShare x1 ∗ owns (c : Thread nD τ) arg3 fullShare x2
            ∗ owns (c : Thread nD τ) arg4 fullShare (arg4.view.read (Elt F) (arg4.view.writes (Elt F) (harg4.unread d4)
                [⟨Rect.unit (s := S10240x4) (k0_off1 i) S128x4.size (k0_off1_inb i hc1), rowsAt (BitVec.ofNat 32 (i 0).val) x0 x1⟩]))
            ∗ owns (c : Thread nD τ) arg5 fullShare (accAt (BitVec.ofNat 32 (i 0).val) x0 x1 s5)) -∗ K ⟨⟩))
      ⊢ wp frame (wpE (defs₀ (F := F)) Variants.none c none) E (cc0__fused_body i arg1 harg1 arg2 harg2 arg3 harg3 arg4 harg4 arg5 harg5) K := by
  simp only [cc0__fused_body_eq_skeleton]; unfold cc0__fused_body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f4, %hf4, H4⟩, ⟨%f5, %hf5, H5⟩, Hk⟩
  obtain rfl := harg1.eq_unread hf0; obtain rfl := harg2.eq_unread hf1; obtain rfl := harg3.eq_unread hf2
  obtain rfl := harg4.eq_unread hf4; obtain rfl := harg5.eq_unread hf5
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact harg3.read_unread _
  isplitl [H4]
  · iexists _; isplitr; swap; · iexact H4
    ipureintro
    have e : rowsAt (BitVec.ofNat 32 (i 0).val) (View.readAt (Elt F) arg1.view (Rect.unit (s := S10240x4) ![0, 0] S10240x4.size inb_S10240x4_S10240x4_0_0).toLoadRect (harg1.unread x0)) (View.readAt (Elt F) arg2.view (Rect.unit (s := S128x4) ![0, 0] S128x4.size inb_S128x4_S128x4_0_0).toLoadRect (harg2.unread x1)) = rowsAt (BitVec.ofNat 32 (i 0).val) x0 x1 := by
      rw [load_whole harg1 x0, load_whole harg2 x1]
    rw [← e]; rfl
  iexists _; isplitr; swap; · iexact H5
  ipureintro
  refine (View.read_writes_full _ _ _ _ _).trans ?_
  have e : accAt (BitVec.ofNat 32 (i 0).val) (View.readAt (Elt F) arg1.view (Rect.unit (s := S10240x4) ![0, 0] S10240x4.size inb_S10240x4_S10240x4_0_0).toLoadRect (harg1.unread x0)) (View.readAt (Elt F) arg2.view (Rect.unit (s := S128x4) ![0, 0] S128x4.size inb_S128x4_S128x4_0_0).toLoadRect (harg2.unread x1)) (View.readAt (Elt F) arg5.view (Rect.unit (s := S10240x4) ![0, 0] S10240x4.size inb_S10240x4_S10240x4_0_0).toLoadRect (harg5.unread s5)) = accAt (BitVec.ofNat 32 (i 0).val) x0 x1 s5 := by
    rw [load_whole harg1 x0, load_whole harg2 x1, load_whole harg5 s5]
  rw [← e]; rfl

set_option maxHeartbeats 1000000 in
/-- The first point: as `run_rows`, the second scratch zeroed before the row block adds to it. -/
theorem run_first (c : Dev nD) (i : grid0.Coords) (arg1 : Memref sig .tc .vmem S10240x4 .f32) (harg1 : arg1.IsWhole) (arg2 : Memref sig .tc .vmem S128x4 .f32) (harg2 : arg2.IsWhole) (arg3 : Memref sig .tc .vmem S1x1 .f32) (harg3 : arg3.IsWhole) (arg4 : Memref sig .tc .vmem S10240x4 .f32) (harg4 : arg4.IsWhole) (arg5 : Memref sig .tc .vmem S10240x4 .f32) (harg5 : arg5.IsWhole)
    (hc0 : isFirst i) (hc1 : k0_cond2 i = 1#1) (hc2 : ¬k0_cond3 i = 1#1)
    (x0 : Vec F S10240x4 .f32) (x1 : Vec F S128x4 .f32) (x2 : Vec F S1x1 .f32) (d4 s5 : Vec F S10240x4 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare d4 ∗ owns (c : Thread nD τ) arg5 fullShare s5
        ∗ (iprop(owns (c : Thread nD τ) arg1 fullShare x0 ∗ owns (c : Thread nD τ) arg2 fullShare x1 ∗ owns (c : Thread nD τ) arg3 fullShare x2
            ∗ owns (c : Thread nD τ) arg4 fullShare (arg4.view.read (Elt F) (arg4.view.writes (Elt F) (harg4.unread d4)
                [⟨Rect.unit (s := S10240x4) (k0_off1 i) S128x4.size (k0_off1_inb i hc1), rowsAt (BitVec.ofNat 32 (i 0).val) x0 x1⟩]))
            ∗ owns (c : Thread nD τ) arg5 fullShare (accAt (BitVec.ofNat 32 (i 0).val) x0 x1 k0_pay1)) -∗ K ⟨⟩))
      ⊢ wp frame (wpE (defs₀ (F := F)) Variants.none c none) E (cc0__fused_body i arg1 harg1 arg2 harg2 arg3 harg3 arg4 harg4 arg5 harg5) K := by
  simp only [cc0__fused_body_eq_skeleton]; unfold cc0__fused_body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f4, %hf4, H4⟩, ⟨%f5, %hf5, H5⟩, Hk⟩
  obtain rfl := harg1.eq_unread hf0; obtain rfl := harg2.eq_unread hf1; obtain rfl := harg3.eq_unread hf2
  obtain rfl := harg4.eq_unread hf4; obtain rfl := harg5.eq_unread hf5
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact harg3.read_unread _
  isplitl [H4]
  · iexists _; isplitr; swap; · iexact H4
    ipureintro
    have e : rowsAt (BitVec.ofNat 32 (i 0).val) (View.readAt (Elt F) arg1.view (Rect.unit (s := S10240x4) ![0, 0] S10240x4.size inb_S10240x4_S10240x4_0_0).toLoadRect (harg1.unread x0)) (View.readAt (Elt F) arg2.view (Rect.unit (s := S128x4) ![0, 0] S128x4.size inb_S128x4_S128x4_0_0).toLoadRect (harg2.unread x1)) = rowsAt (BitVec.ofNat 32 (i 0).val) x0 x1 := by
      rw [load_whole harg1 x0, load_whole harg2 x1]
    rw [← e]; rfl
  iexists _; isplitr; swap; · iexact H5
  ipureintro
  refine (View.read_writes_full _ _ _ _ _).trans ?_
  have e : accAt (BitVec.ofNat 32 (i 0).val) (View.readAt (Elt F) arg1.view (Rect.unit (s := S10240x4) ![0, 0] S10240x4.size inb_S10240x4_S10240x4_0_0).toLoadRect (harg1.unread x0)) (View.readAt (Elt F) arg2.view (Rect.unit (s := S128x4) ![0, 0] S128x4.size inb_S128x4_S128x4_0_0).toLoadRect (harg2.unread x1)) (arg5.view.readCov [⟨Rect.unit (s := S10240x4) ![0, 0] S10240x4.size inb_S10240x4_S10240x4_0_0, k0_pay1 (F := F)⟩] (Rect.unit (s := S10240x4) ![0, 0] S10240x4.size inb_S10240x4_S10240x4_0_0).toLoadRect) = accAt (BitVec.ofNat 32 (i 0).val) x0 x1 k0_pay1 := by
    rw [load_whole harg1 x0, load_whole harg2 x1, View.readCov_full]
  rw [← e]; rfl

set_option maxHeartbeats 1000000 in
/-- The last point: the result's buffer holds the loss of the two scratches and the points; everything else is as it was. -/
theorem run_last (c : Dev nD) (i : grid0.Coords) (arg1 : Memref sig .tc .vmem S10240x4 .f32) (harg1 : arg1.IsWhole) (arg2 : Memref sig .tc .vmem S128x4 .f32) (harg2 : arg2.IsWhole) (arg3 : Memref sig .tc .vmem S1x1 .f32) (harg3 : arg3.IsWhole) (arg4 : Memref sig .tc .vmem S10240x4 .f32) (harg4 : arg4.IsWhole) (arg5 : Memref sig .tc .vmem S10240x4 .f32) (harg5 : arg5.IsWhole)
    (hc0 : ¬isFirst i) (hc1 : ¬k0_cond2 i = 1#1) (hc2 : k0_cond3 i = 1#1)
    (x0 : Vec F S10240x4 .f32) (x1 : Vec F S128x4 .f32) (x2 : Vec F S1x1 .f32) (d4 s5 : Vec F S10240x4 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare d4 ∗ owns (c : Thread nD τ) arg5 fullShare s5
        ∗ (iprop(owns (c : Thread nD τ) arg1 fullShare x0 ∗ owns (c : Thread nD τ) arg2 fullShare x1 ∗ owns (c : Thread nD τ) arg3 fullShare (k0_pay4 d4 s5 x0)
            ∗ owns (c : Thread nD τ) arg4 fullShare d4
            ∗ owns (c : Thread nD τ) arg5 fullShare s5) -∗ K ⟨⟩))
      ⊢ wp frame (wpE (defs₀ (F := F)) Variants.none c none) E (cc0__fused_body i arg1 harg1 arg2 harg2 arg3 harg3 arg4 harg4 arg5 harg5) K := by
  simp only [cc0__fused_body_eq_skeleton]; unfold cc0__fused_body_skel
  unfold owns
  iintro ⟨⟨%f0, %hf0, H0⟩, ⟨%f1, %hf1, H1⟩, ⟨%f2, %hf2, H2⟩, ⟨%f4, %hf4, H4⟩, ⟨%f5, %hf5, H5⟩, Hk⟩
  obtain rfl := harg1.eq_unread hf0; obtain rfl := harg2.eq_unread hf1; obtain rfl := harg3.eq_unread hf2
  obtain rfl := harg4.eq_unread hf4; obtain rfl := harg5.eq_unread hf5
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine (View.read_writes_full _ _ _ _ _).trans ?_
    have e : k0_pay4 (View.readAt (Elt F) arg4.view (Rect.unit (s := S10240x4) ![0, 0] S10240x4.size inb_S10240x4_S10240x4_0_0).toLoadRect (harg4.unread d4)) (View.readAt (Elt F) arg5.view (Rect.unit (s := S10240x4) ![0, 0] S10240x4.size inb_S10240x4_S10240x4_0_0).toLoadRect (harg5.unread s5)) (View.readAt (Elt F) arg1.view (Rect.unit (s := S10240x4) ![0, 0] S10240x4.size inb_S10240x4_S10240x4_0_0).toLoadRect (harg1.unread x0)) = k0_pay4 d4 s5 x0 := by
      rw [load_whole harg4 d4, load_whole harg5 s5, load_whole harg1 x0]
    rw [← e]
  isplitl [H4]
  · iexists _; isplitr; swap; · iexact H4
    ipureintro
    exact harg4.read_unread _
  iexists _; isplitr; swap; · iexact H5
  ipureintro
  exact harg5.read_unread _

end Cert.KernelIdeal.Hand

end
-- ==== Proof.KernelRun.lean ====
/-
  `KernelIdeal` launched: its frame and the value of its result, at any values.

  Between points the invariant holds the second scratch at the sum so far (`accN`) and the first scratch at some contents
  that agree with the table of all row blocks (`rowsTbl`) on the rows done so far. At the last point all 80 blocks are
  done, so the first scratch is the table, and the result is `lossOf` of the two.
-/
module

public import proofs.«01_k».proof.Proof.Body
public import Idealize.ShloMosaic.Lib.Claim
public import Idealize.ShloMosaic.Lib.ValueIdx
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratches hold -/

/-- The grid point of a number (taken modulo 81). -/
def pt (n : ℕ) : Fin cfg0.N := ⟨n % 81, lt_of_lt_of_eq (Nat.mod_lt n (by decide)) (show cfg0.N = 81 from N_0).symm⟩

/-- The grid point of number `t` is `t`. -/
theorem pt_val (t : Fin cfg0.N) : pt t.val = t :=
  Fin.ext (Nat.mod_eq_of_lt (lt_of_lt_of_eq t.isLt (show cfg0.N = 81 from N_0)))

/-- The grid coordinate of a point, as the body's word. -/
abbrev wordAt (t : Fin cfg0.N) : BitVec 32 := BitVec.ofNat 32 (grid0.coords t 0).val

/-- The second scratch after point `n`'s row block. -/
def accN (c : Dev nD) : ℕ → Vec F S10240x4 .f32
  | 0 => accAt (wordAt (pt 0)) (iblk m c 0 (pt 0)) (iblk m c 1 (pt 0)) k0_pay1
  | n + 1 => accAt (wordAt (pt (n + 1))) (iblk m c 0 (pt (n + 1))) (iblk m c 1 (pt (n + 1))) (accN c n)

/-- The first scratch after all 80 row blocks: row `r` is row `r % 128` of block `r / 128`. -/
def rowsTbl (c : Dev nD) : Vec F S10240x4 .f32 := fun y =>
  rowsAt (wordAt (pt ((y 0).val / 128))) (iblk m c 0 (pt ((y 0).val / 128))) (iblk m c 1 (pt ((y 0).val / 128)))
    (ix2 ⟨(y 0).val % 128, Nat.mod_lt _ (by decide)⟩ (y 1))

/-- The loss the last point computes. -/
def lossOf (c : Dev nD) : Vec F S1x1 .f32 := k0_pay4 (rowsTbl m c) (accN m c 79) (iblk m c 0 (pt 80))

/-- Writing point `t`'s rows over contents that agree with the table before them gives contents that agree with it through
    them. -/
theorem rows_step (c : Dev nD) (t : Fin cfg0.N) (h1 : k0_cond2 (grid0.coords t) = 1#1) (ht : t.val < 80)
    (arg4 : Memref sig .tc .vmem S10240x4 .f32) (harg4 : arg4.IsWhole) (d4 : Vec F S10240x4 .f32)
    (hd : ∀ y : S10240x4.Idx, (y 0).val < 128 * t.val → d4 y = rowsTbl m c y) (y : S10240x4.Idx) (hy : (y 0).val < 128 * (t.val + 1)) :
    arg4.view.read (Elt F) (arg4.view.writes (Elt F) (harg4.unread d4)
      [⟨Rect.unit (s := S10240x4) (k0_off1 (grid0.coords t)) S128x4.size (k0_off1_inb (grid0.coords t) h1), rowsAt (wordAt t) (iblk m c 0 t) (iblk m c 1 t)⟩]) y
      = rowsTbl m c y := by
  by_cases hlt : (y 0).val < 128 * t.val
  · rw [View.read_writes_cons_rows_of_not_mem (d := ![10240, 4]) _ _ _ _ _ y (off1_eq t) (W := 128) rfl (Or.inl hlt)]
    rw [View.writes_nil, harg4.read_unread]
    exact hd y hlt
  · have hr : (y 0).val % 128 < 128 := Nat.mod_lt _ (by decide)
    have hdiv : (y 0).val / 128 = t.val := by omega
    have hpt : pt ((y 0).val / 128) = t := by rw [hdiv, pt_val]
    refine (View.read_writes_cons_rows_of_mem (d := ![10240, 4]) _ _ _ _ _ y (ix2 ⟨(y 0).val % 128, hr⟩ (y 1)) (off1_eq t) ?_ rfl).trans ?_
    · show (y 0).val = 128 * t.val + (y 0).val % 128
      omega
    · unfold rowsTbl
      rw [hpt]
      rfl

/-! ## The invariant and the proof data -/

/-- The invariant after at least one point: the first scratch agrees with the table on the rows done, the second is the
    sum so far. -/
def held (c : Dev nD) (n : ℕ) : sProp 𝕄 :=
  iprop(iprop((∃ d, ⌜∀ y : S10240x4.Idx, (y 0).val < 128 * (n + 1) → d y = rowsTbl m c y⌝ ∗ owns (c : Thread nD τ) (Memref.whole cc0_scratch0) fullShare d)
      ∗ owns (c : Thread nD τ) (Memref.whole cc0_scratch1) fullShare (accN m c (min n 79)))
    ∗ (∃ r, prngReg c r))

/-- The invariant before point `n`: anything before the first, then `held`. -/
def inv (c : Dev nD) : (n : ℕ) → n ≤ cfg0.N → sProp 𝕄
  | 0, _ => Pipeline.ΦA spec0 c
  | n + 1, _ => held m c n

/-- The proof data: the inputs stay at their blocks, the result's buffer ends at the loss. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => lossOf m c
  Φ t := inv m c t.val (Nat.le_of_lt_succ t.isLt)
  q w := Pipeline.shareOf spec0 w
  owed _ := 0

/-- The array behind a window is the one the launch is given. -/
theorem A_eq (c : Dev nD) (w : Fin cfg0.W) : (dats m 0 c).A w = V m c (Pipeline.arrRef spec0 w) := by
  dsimp only [dats]
/-- After a step the first window holds its block. -/
theorem after0 (c : Dev nD) (t : Fin cfg0.N) : (dats m 0 c).after 0 t = iblk m c 0 t := by dsimp only [dats]
/-- After a step the second window holds its block. -/
theorem after1 (c : Dev nD) (t : Fin cfg0.N) : (dats m 0 c).after 1 t = iblk m c 1 t := by dsimp only [dats]
/-- After a step the third window holds the loss. -/
theorem after2 (c : Dev nD) (t : Fin cfg0.N) : (dats m 0 c).after 2 t = lossOf m c := by dsimp only [dats]

/-- Before a step the first window holds its block. -/
theorem before0 (c : Dev nD) (t : Fin cfg0.N) (d) : (dats m 0 c).before 0 t d = iblk m c 0 t :=
  before0_0_of m (dats m 0 c) (A_eq m c 0) (after0 m c) t d
/-- Before a step the second window holds its block. -/
theorem before1 (c : Dev nD) (t : Fin cfg0.N) (d) : (dats m 0 c).before 1 t d = iblk m c 1 t :=
  before0_1_of m (dats m 0 c) (A_eq m c 1) (after1 m c) t d

/-- The class's invariant, with the two scratches as memrefs. -/
theorem anything_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- The result's buffer is handed back as found at the points before the last, -/
theorem idle2 (t : Fin cfg0.N) (h : ¬k0_cond3 (grid0.coords t) = 1#1) : cfg0.idle 2 (cfg0.grid.coords t) = true := by
  show (!(k0_cond3 (grid0.coords t) == 1#1)) = true
  simp [h]
/-- and not at the last. -/
theorem live2 (t : Fin cfg0.N) (h : k0_cond3 (grid0.coords t) = 1#1) : cfg0.idle 2 (cfg0.grid.coords t) = false := by
  show (!(k0_cond3 (grid0.coords t) == 1#1)) = false
  simp [h]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-- The invariant before a step, by the number of the step. -/
theorem inv_castSucc (c : Dev nD) (t : Fin cfg0.N) :
    (dats m 0 c).Φ t.castSucc = inv m c t.val (Nat.le_of_lt t.isLt) := by
  dsimp only [dats]; exact Pipeline.Dat.Φ_castSucc (inv m c) t

/-- Before the first step the invariant is what the launch hands over. -/
theorem inv_zero (c : Dev nD) (n : ℕ) (h : n ≤ cfg0.N) (hz : n = 0) : inv m c n h = Pipeline.ΦA spec0 c := by
  subst hz; rfl

/-- Before a later step the invariant is what the step before left. -/
theorem inv_pos (c : Dev nD) (n : ℕ) (h : n ≤ cfg0.N) (hz : n ≠ 0) : inv m c n h = held m c (n - 1) := by
  cases n with
  | zero => exact absurd rfl hz
  | succ n => rfl

/-- The sum after the first point. -/
theorem accN_first (c : Dev nD) (t : Fin cfg0.N) (h : t.val = 0) :
    accN m c (min t.val 79) = accAt (wordAt t) (iblk m c 0 t) (iblk m c 1 t) k0_pay1 := by
  have e : pt 0 = t := by rw [← h, pt_val]
  rw [h, Nat.zero_min, accN, e]

/-- The sum after a later row block, from the sum before it. -/
theorem accN_next (c : Dev nD) (t : Fin cfg0.N) (h : t.val ≠ 0) (h80 : t.val < 80) :
    accN m c (min t.val 79) = accAt (wordAt t) (iblk m c 0 t) (iblk m c 1 t) (accN m c (min (t.val - 1) 79)) := by
  have e1 : min t.val 79 = (t.val - 1) + 1 := by omega
  have e2 : min (t.val - 1) 79 = t.val - 1 := by omega
  have e3 : pt (t.val - 1 + 1) = t := by rw [Nat.sub_add_cancel (Nat.pos_of_ne_zero h), pt_val]
  rw [e1, e2, accN, e3]

set_option maxHeartbeats 4800000 in
/-- The body at any point, by which of its three shapes the point has. -/
theorem sound_body (c : Dev nD) (t : Fin cfg0.N) :
    bodyPre m c t ⊢ wp frame (wpE (defs₀ (F := F)) Variants.none c none) Set.univ (bodyAt0 t) (fun _ => bodyPost m c t) := by
  have hN : t.val < 81 := lt_of_lt_of_eq t.isLt (show cfg0.N = 81 from N_0)
  unfold bodyPre bodyPost bodyAt0
  simp only [before0, before1]
  rw [show (dats m 0 c).owesAt () t.succ = (dats m 0 c).owesAt () t.castSucc from rfl]
  rw [show (dats m 0 c).Φ t.succ = held m c t.val from rfl, inv_castSucc]
  rw [show (dats m 0 c).leavesExact 0 t = owns (c : Thread nD τ) (st0_0 t) fullShare ((dats m 0 c).after 0 t) from rfl, after0]
  rw [show (dats m 0 c).leavesExact 1 t = owns (c : Thread nD τ) (st0_1 t) fullShare ((dats m 0 c).after 1 t) from rfl, after1]
  by_cases h80 : t.val < 80
  · have hc1 := (isRows_iff t).mpr h80
    have hc2 : ¬k0_cond3 (grid0.coords t) = 1#1 := fun h => by have := (isLast_iff t).mp h; omega
    have hfl : (cfg0.win 2).flush t = false := by
      rw [← Bool.not_eq_true]; intro h; have := (flush0_2 t).mp h; omega
    rw [Dat.leavesExact_idle (dats m 0 c) 2 t (idle2 t hc2) hfl]
    by_cases hz : t.val = 0
    · have hc0 := (isFirst_iff t).mpr hz
      rw [inv_zero m c _ _ hz, anything_eq]
      unfold held
      rw [accN_first m c t hz]
      iintro ⟨⟨⟨⟨%d4, HS0⟩, ⟨%d5, HS1⟩⟩, Hg⟩, Ho, ⟨%d0, H0⟩, ⟨%d1, H1⟩, ⟨%d2, H2⟩⟩
      iapply (run_first c (grid0.coords t) _ (hstage0_0 ((cfg0.slots t 0).cast nbuf0_0)) _ (hstage0_1 ((cfg0.slots t 1).cast nbuf0_1)) _ (hstage0_2 ((cfg0.slots t 2).cast nbuf0_2)) _ (Memref.isWhole_whole _) _ (Memref.isWhole_whole _) hc0 hc1 hc2 (iblk m c 0 t) (iblk m c 1 t) _ d4 d5 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hg]
      · isplitl [HS0 HS1]
        · isplitl [HS0]
          · iexists _; isplitr; swap; · iexact HS0
            ipureintro
            exact rows_step m c t hc1 h80 _ _ d4 (fun y hy => by rw [hz] at hy; omega)
          iexact HS1
        iexact Hg
      isplitl [Ho]; · iexact Ho
      isplitl [H0]; · iexact H0
      isplitl [H1]; · iexact H1
      iexists _; iexact H2
    · have hc0 : ¬isFirst (grid0.coords t) := fun h => hz ((isFirst_iff t).mp h)
      rw [inv_pos m c _ _ hz]
      unfold held
      rw [accN_next m c t hz h80, Nat.sub_add_cancel (Nat.pos_of_ne_zero hz)]
      iintro ⟨⟨⟨⟨%d4, %hd4, HS0⟩, HS1⟩, Hg⟩, Ho, ⟨%d0, H0⟩, ⟨%d1, H1⟩, ⟨%d2, H2⟩⟩
      iapply (run_rows c (grid0.coords t) _ (hstage0_0 ((cfg0.slots t 0).cast nbuf0_0)) _ (hstage0_1 ((cfg0.slots t 1).cast nbuf0_1)) _ (hstage0_2 ((cfg0.slots t 2).cast nbuf0_2)) _ (Memref.isWhole_whole _) _ (Memref.isWhole_whole _) hc0 hc1 hc2 (iblk m c 0 t) (iblk m c 1 t) _ d4 _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hg]
      · isplitl [HS0 HS1]
        · isplitl [HS0]
          · iexists _; isplitr; swap; · iexact HS0
            ipureintro
            exact rows_step m c t hc1 h80 _ _ d4 hd4
          iexact HS1
        iexact Hg
      isplitl [Ho]; · iexact Ho
      isplitl [H0]; · iexact H0
      isplitl [H1]; · iexact H1
      iexists _; iexact H2
  · have h8 : t.val = 80 := by omega
    have hz : t.val ≠ 0 := by omega
    have hc0 : ¬isFirst (grid0.coords t) := fun h => hz ((isFirst_iff t).mp h)
    have hc1 : ¬k0_cond2 (grid0.coords t) = 1#1 := fun h => h80 ((isRows_iff t).mp h)
    have hc2 := (isLast_iff t).mpr h8
    have hpt : pt 80 = t := by rw [← h8, pt_val]
    rw [show (dats m 0 c).leavesExact 2 t = owns (c : Thread nD τ) (st0_2 t) fullShare ((dats m 0 c).after 2 t) from by
      unfold Dat.leavesExact; rw [live2 t hc2], after2]
    rw [inv_pos m c _ _ hz]
    unfold held lossOf
    rw [show min t.val 79 = 79 by omega, show min (t.val - 1) 79 = 79 by omega, hpt]
    iintro ⟨⟨⟨⟨%d4, %hd4, HS0⟩, HS1⟩, Hg⟩, Ho, ⟨%d0, H0⟩, ⟨%d1, H1⟩, ⟨%d2, H2⟩⟩
    have hd : d4 = rowsTbl m c := funext fun y => hd4 y (by
      have : (y 0).val < 10240 := (y 0).isLt
      omega)
    subst hd
    iapply (run_last c (grid0.coords t) _ (hstage0_0 ((cfg0.slots t 0).cast nbuf0_0)) _ (hstage0_1 ((cfg0.slots t 1).cast nbuf0_1)) _ (hstage0_2 ((cfg0.slots t 2).cast nbuf0_2)) _ (Memref.isWhole_whole _) _ (Memref.isWhole_whole _) hc0 hc1 hc2 (iblk m c 0 t) (iblk m c 1 t) _ _ _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hg]
    · isplitl [HS0 HS1]
      · isplitl [HS0]
        · iexists _; isplitr; swap; · iexact HS0
          ipureintro
          exact fun _ _ => rfl
        iexact HS1
      iexact Hg
    isplitl [Ho]; · iexact Ho
    isplitl [H0]; · iexact H0
    isplitl [H1]; · iexact H1
    iexact H2

/-- The body table's row at point `t`'s slots is the body at that point. -/
theorem row_eq (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = inv m c 0 (Nat.zero_le _) from rfl, inv_zero m c 0 _ rfl]

/-- After the last point the scratches' contents are forgotten. -/
theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 81 := N_0; omega), anything_eq]
  unfold held
  iintro ⟨⟨⟨%d, -, HS0⟩, HS1⟩, Hg⟩
  isplitl [HS0 HS1]
  · isplitl [HS0]
    · iexists _; iexact HS0
    iexists _; iexact HS1
  iexact Hg

/-! ## The run -/

set_option backward.isDefEq.respectTransparency.types false in
set_option maxHeartbeats 800000 in
/-- The launch: the frame run's post, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the argument ends unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-! ## The value -/

/-- The only write-back is at the last point, and writes the loss. -/
theorem flushed_eq (c : Dev nD) (t : Fin cfg0.N) (hf : (cfg0.win 2).flush t = true) :
    (dats m 0 c).flushed 2 t = ((cfg0.win 2).blk t).view.read (Elt F) (lossOf m c) := by
  have hN : t.val < 81 := lt_of_lt_of_eq t.isLt (show cfg0.N = 81 from N_0)
  have h80 : t.val % 81 = 80 := (flush0_2 t).mp hf
  have ht : pt 80 = t := by rw [show 80 = t.val by omega, pt_val]
  subst ht
  show (cfg0.win 2).cut (grid0.coords (pt 80)) ((dats m 0 c).after 2 (pt 80)) = _
  rw [after2]
  have hz' : (fun a => win0_2.index (pt 80) a * main_v5.ty.shape.size a) = fun _ => 0 := funext fun a => by fin_cases a <;> decide
  exact (Memref.read_access_unit_zero (Elt F) main_v5 hz' (fun a => by rw [congrFun hz' a]; simp) (lossOf m c)).symm

/-- The result array ends holding the loss. -/
theorem final_eq (c : Dev nD) : (dats m 0 c).arrAt 2 cfg0.N = lossOf m c :=
  (dats m 0 c).arrAt_eq_of_cover 2 (lossOf m c) (flushed_eq m c) fun i =>
    ⟨pt 80, (flush0_2 (pt 80)).mpr rfl, by
      show i ∈ ((View.whole main_v5).slice (win0_2.rect (pt 80))).set
      rw [View.set_slice_whole, Rect.mem_set_unit]
      intro a
      have h0 : (i 0 : Nat) < 1 := (i 0).isLt
      have h1 : (i 1 : Nat) < 1 := (i 1).isLt
      match a with
      | ⟨0, _⟩ => show win0_2.index (pt 80) 0 * win0_2.size 0 ≤ (i 0 : Nat) ∧ (i 0 : Nat) < win0_2.index (pt 80) 0 * win0_2.size 0 + win0_2.xsize (grid0.coords (pt 80)) 0
                  rw [show win0_2.index (pt 80) 0 * win0_2.size 0 = 0 from by decide +kernel, show win0_2.xsize (grid0.coords (pt 80)) 0 = 1 from by decide +kernel]; omega
      | ⟨1, _⟩ => show win0_2.index (pt 80) 1 * win0_2.size 1 ≤ (i 1 : Nat) ∧ (i 1 : Nat) < win0_2.index (pt 80) 1 * win0_2.size 1 + win0_2.xsize (grid0.coords (pt 80)) 1
                  rw [show win0_2.index (pt 80) 1 * win0_2.size 1 = 0 from by decide +kernel, show win0_2.xsize (grid0.coords (pt 80)) 1 = 1 from by decide +kernel]; omega⟩

/-- The loss as a scalar. -/
def lossScalar (c : Dev nD) : Buf (Elt F) ((c.tc : Thread nD τ).loc main_v6) := shapeCast S_ (lossOf m c) shapeCasts_S1x1_S_

/-- The line after the region leaves the scalar in the result. -/
theorem tail_eq (c : Dev nD) : Pipeline.afterTail₀ cfgs (dats m) 0 (V0 m) [hostOps1] c main_v6 = lossScalar m c := by
  have e : Pipeline.withArrays spec0 c (V0 m c) (fun w => (dats m 0 c).arrAt w cfg0.N) (Proc.devRef .tc (Pipeline.arrRef spec0 2)) = lossOf m c :=
    (Pipeline.withArrays_arr_shared spec0 c (V0 m c) (fun w => (dats m 0 c).arrAt w cfg0.N)
      ((dats m 0 c).arrAt_sharedIn launch₀0.sharedIn (V0 m c) (A_eq m c) cfg0.N) 2).trans (final_eq m c)
  unfold Pipeline.afterTail₀
  simp only [hostOps1, List.flatten_cons, List.flatten_nil, List.append_nil, StableHlo.after_cons, StableHlo.after_nil]
  rw [StableHlo.reshape_result]
  show shapeCast S_ (Pipeline.withArrays spec0 c (V0 m c) (fun w => (dats m 0 c).arrAt w cfg0.N) (Proc.devRef .tc (Pipeline.arrRef spec0 2))) shapeCasts_S1x1_S_ = _
  rw [e]
  rfl

/-- The run, read: the result is the loss, the argument is unchanged. -/
theorem run : θ_run defs (onTc (τ := τ) (main (F := F))) ⟨m, fun _ => 0, ρ⟩ (fun r => ∀ c : Dev nD,
      r.2.mem ((c.tc : Thread nD τ).loc main_v6) = lossScalar m c
      ∧ r.2.mem ((c.tc : Thread nD τ).loc main_arg0) = m ((c.tc : Thread nD τ).loc main_arg0)) :=
  (θ_run defs _ _).mono (fun _ h c =>
      ⟨((h.1 c).2 main_v6 (Pipeline.mem_restRefs_of main_v6 (by decide) (by decide))).trans (tail_eq m c),
        ((h.1 c).2 main_arg0 (Pipeline.mem_restRefs_of main_arg0 (by decide) (by decide))).trans (W_main_arg0 m (dats m) c)⟩)
    (run_main m ρ)

end Cert.KernelIdeal.Hand

end
-- ==== Proof.KernelFrame.lean ====
/-
  The frame of the kernel at the bit-exact floats. The kernel and its idealization are one program, so the frame proved of the
  second at any float values is the first's.
-/
module

public import proofs.«01_k».proof.Proof.KernelRun
public import proofs.«01_k».proof.Proof.Gen.Kernel

@[expose] public section

noncomputable section

namespace Cert.Kernel.Hand

open Idealize.ShloMosaic Idealize.ShloMosaic.TcCoe Idealize.SL.Sem
open Cert.Kernel

variable {F : FTy → Type} [FloatOps F]

/-- The two programs' kernel functions are one function. -/
theorem body_eq : cc0__fused_body (F := F) = KernelIdeal.cc0__fused_body (F := F) := rfl

/-- The two programs' tables of kernel functions are one table. -/
theorem defs₀_eq : defs₀ (F := F) = KernelIdeal.defs₀ (F := F) := by
  unfold defs₀ KernelIdeal.defs₀
  refine congrArg Defs.onTc ?_
  funext l a
  match l, a with
  | ⟨0, _⟩, (t, s) => rfl

/-- The two programs' whole tables are one table. -/
theorem defs_eq : defs (F := F) = KernelIdeal.defs (F := F) := by
  unfold defs KernelIdeal.defs
  rw [defs₀_eq]
  rfl

/-- The kernel leaves its argument unchanged and ends with every semaphore counter at zero. -/
theorem frame (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0))
      ∧ r.2.sem = fun _ => 0) := by
  rw [defs_eq]
  exact Cert.KernelIdeal.Hand.frame m ρ

end Cert.Kernel.Hand
-- ==== Proof.RefFrame.lean ====
/-
  The reference program's frame: it declares no semaphore, and its generated run leaves the argument unchanged.
-/
module

public import proofs.«01_k».proof.Proof.Gen.ReferenceIdeal.Run
public import Idealize.ShloMosaic.Lib.Quiescent

@[expose] public section

noncomputable section

namespace Cert.ReferenceIdeal.Hand

open Idealize.ShloMosaic Idealize.ShloMosaic.TcCoe Idealize.SL.Sem
open Cert.ReferenceIdeal

variable {F : FTy → Type} [FloatOps F]

/-- The reference leaves its argument unchanged and ends with every semaphore counter at zero. -/
theorem frame (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0))
      ∧ r.2.sem = fun _ => 0) :=
  (θ_run defs _ _).mono (fun r h => ⟨fun c => (h c).2, sem_eq_zero_of_no_sems rfl r.2⟩) (Value.run m ρ)

end Cert.ReferenceIdeal.Hand
-- ==== Proof.PreRead.lean ====
/-
  The precondition read: the points are pairwise distinct.
-/
module

public import proofs.«01_k».proof.Pre_distinct
public import Idealize.ShloMosaic.Lib.Pointwise

@[expose] public section

set_option maxRecDepth 16384

noncomputable section

namespace Cert.Pre_distinct

open Idealize.ShloMosaic Idealize.ShloMosaic.TcCoe Idealize.ShloMosaic.Tactic

variable [Facts]

/-- Where the precondition's predicate holds everywhere, any two points differ in some coordinate. -/
theorem distinct_of (x : FVec Ideal S10000x3 .f32) (h : fn (F := Ideal) x = fun _ => 1#1) (i j : Fin 10000) (hij : i ≠ j) :
    ∃ q : Fin 3, (x (ix2 i q) : EReal) ≠ x (ix2 j q) := by
  by_contra hne
  have he : ∀ q, (x (ix2 i q) : EReal) = x (ix2 j q) := fun q => not_not.mp fun hq => hne ⟨q, hq⟩
  have h1 := congrFun h (ix2 i j)
  revert h1
  pointwise [fn, fn_part1]
  simp only [he]
  have hw : IntOp.cmpi .eq (BitVec.ofNat 32 i.val) (BitVec.ofNat 32 j.val) = 0#1 := by
    have hi := i.isLt
    have hj := j.isLt
    show BitVec.ofBool (BitVec.ofNat 32 i.val == BitVec.ofNat 32 j.val) = 0#1
    rw [beq_eq_false_iff_ne.mpr]
    · rfl
    · intro e
      have := congrArg BitVec.toNat e
      simp only [BitVec.toNat_ofNat] at this
      exact hij (Fin.ext (by omega))
  rw [hw]
  simp only [ne_eq, not_true_eq_false, decide_false]
  decide

end Cert.Pre_distinct

end
-- ==== Proof.Rank.lean ====
/-
  Ranks: the place of a position in the order of its key, ties going to the lower position. Two ways of taking
  the first few places agree with it: the stable sort puts at place `p` the position of rank `p`, and taking
  the minimum again and again, each time striking out what was taken, takes the ranks 0, 1, 2, … in turn.
-/
module

public import Idealize.ShloMosaic.Lib.SortFacts
public import Mathlib.Data.EReal.Basic
public import Mathlib.Order.Interval.Finset.Fin
public import Mathlib.Data.Fintype.Card

@[expose] public section

namespace Cert.Knn

open Idealize.ShloMosaic

variable {n : ℕ} {α : Type} [LinearOrder α]

/-- `a` comes before `b`: its key is smaller, or the keys are equal and its position is lower. -/
def Before (key : Fin n → α) (a b : Fin n) : Prop := key a < key b ∨ (key a = key b ∧ a < b)

/-- No position comes before itself. -/
theorem Before.irrefl (key : Fin n → α) (a : Fin n) : ¬ Before key a a := by
  rintro (h | ⟨-, h⟩)
  · exact lt_irrefl _ h
  · exact lt_irrefl _ h

/-- Coming before is transitive. -/
theorem Before.trans {key : Fin n → α} {a b c : Fin n} (h : Before key a b) (h' : Before key b c) :
    Before key a c := by
  rcases h with h | ⟨e, h⟩ <;> rcases h' with h' | ⟨e', h'⟩
  · exact .inl (h.trans h')
  · exact .inl (e' ▸ h)
  · exact .inl (e ▸ h')
  · exact .inr ⟨e.trans e', h.trans h'⟩

/-- Of two different positions one comes before the other. -/
theorem Before.total (key : Fin n → α) {a b : Fin n} (h : a ≠ b) : Before key a b ∨ Before key b a := by
  rcases lt_trichotomy (key a) (key b) with hk | hk | hk
  · exact .inl (.inl hk)
  · rcases lt_or_gt_of_ne h with hab | hab
    · exact .inl (.inr ⟨hk, hab⟩)
    · exact .inr (.inr ⟨hk.symm, hab⟩)
  · exact .inr (.inl hk)

/-- A position that comes before another has no greater key. -/
theorem Before.le {key : Fin n → α} {a b : Fin n} (h : Before key a b) : key a ≤ key b := by
  rcases h with h | ⟨e, -⟩
  · exact h.le
  · exact e.le

open Classical in
/-- The rank of a position: how many positions come before it. -/
noncomputable def rank (key : Fin n → α) (j : Fin n) : ℕ := (Finset.univ.filter fun a => Before key a j).card

/-- A position that comes before another has the smaller rank. -/
theorem rank_lt_of_before {key : Fin n → α} {a b : Fin n} (h : Before key a b) : rank key a < rank key b := by
  classical
  refine Finset.card_lt_card (Finset.ssubset_iff_of_subset ?_ |>.mpr ⟨a, ?_, ?_⟩)
  · intro x hx
    simp only [Finset.mem_filter, Finset.mem_univ, true_and] at hx ⊢
    exact hx.trans h
  · simpa using h
  · simpa using Before.irrefl key a

/-- The order of ranks is the order of positions. -/
theorem rank_lt_iff (key : Fin n → α) (a b : Fin n) : rank key a < rank key b ↔ Before key a b := by
  refine ⟨fun h => ?_, rank_lt_of_before⟩
  by_contra hb
  by_cases hab : a = b
  · subst hab; exact lt_irrefl _ h
  · exact absurd h (rank_lt_of_before ((Before.total key hab).resolve_left hb)).not_gt

/-- Different positions have different ranks. -/
theorem rank_injective (key : Fin n → α) : Function.Injective (rank key) := by
  intro a b h
  by_contra hab
  rcases Before.total key hab with h' | h'
  · exact absurd h (rank_lt_of_before h').ne
  · exact absurd h (rank_lt_of_before h').ne'

/-- Ranks are below the number of positions. -/
theorem rank_lt (key : Fin n → α) (j : Fin n) : rank key j < n := by
  classical
  have h : (Finset.univ.filter fun a => Before key a j).card < (Finset.univ : Finset (Fin n)).card :=
    Finset.card_lt_card (Finset.ssubset_iff_of_subset (Finset.subset_univ _) |>.mpr
      ⟨j, Finset.mem_univ _, by simpa using Before.irrefl key j⟩)
  simpa [rank] using h

/-- Every rank is taken. -/
theorem exists_rank (key : Fin n → α) (k : ℕ) (hk : k < n) : ∃ j, rank key j = k := by
  have hi : Function.Injective fun j : Fin n => (⟨rank key j, rank_lt key j⟩ : Fin n) := by
    intro a b h
    exact rank_injective key (Fin.ext_iff.mp h)
  obtain ⟨j, hj⟩ := (Finite.injective_iff_surjective.mp hi) ⟨k, hk⟩
  exact ⟨j, Fin.ext_iff.mp hj⟩

/-- Rank 0 is the first least position. -/
theorem rank_eq_zero_iff (key : Fin n → α) (j : Fin n) :
    rank key j = 0 ↔ ∀ a, a ≠ j → Before key j a := by
  classical
  rw [rank, Finset.card_eq_zero, Finset.filter_eq_empty_iff]
  refine ⟨fun h a ha => (Before.total key ha).resolve_left (h (Finset.mem_univ a)), fun h a _ hb => ?_⟩
  by_cases ha : a = j
  · subst ha; exact Before.irrefl _ _ hb
  · exact Before.irrefl _ _ (hb.trans (h a ha))

/-! ## The stable sort -/

/-- Inserting a position below all of an ordered list keeps the list ordered. -/
theorem pairwise_insert (key : Fin n → α) (before : Fin n → Fin n → Bool)
    (hb : ∀ a b, before a b = true ↔ key a < key b) (a : Fin n) (l : List (Fin n))
    (hl : l.Pairwise (Before key)) (ha : ∀ b ∈ l, a < b) :
    (insertBefore before a l).Pairwise (Before key) := by
  induction l with
  | nil => exact List.pairwise_singleton _ _
  | cons b l ih =>
    rw [List.pairwise_cons] at hl
    unfold insertBefore
    split
    · rename_i h
      rw [List.pairwise_cons]
      refine ⟨fun x hx => ?_, ih hl.2 fun y hy => ha y (List.mem_cons_of_mem _ hy)⟩
      rcases List.mem_cons.mp ((perm_insertBefore before a l).mem_iff.mp hx) with rfl | hx
      · exact .inl ((hb _ _).mp h)
      · exact hl.1 x hx
    · rename_i h
      have hab : Before key a b := by
        rcases (not_lt.mp fun hlt => h ((hb _ _).mpr hlt)).lt_or_eq with hlt | he
        · exact .inl hlt
        · exact .inr ⟨he, ha b List.mem_cons_self⟩
      rw [List.pairwise_cons, List.pairwise_cons]
      refine ⟨fun x hx => ?_, hl⟩
      rcases List.mem_cons.mp hx with rfl | hx
      · exact hab
      · exact hab.trans (hl.1 x hx)

/-- The stable sort of an ascending list of positions is ordered by key, ties by position. -/
theorem pairwise_sorted (key : Fin n → α) (before : Fin n → Fin n → Bool)
    (hb : ∀ a b, before a b = true ↔ key a < key b) (l : List (Fin n)) (hl : l.Pairwise (· < ·)) :
    (stableSort before l).Pairwise (Before key) := by
  induction l with
  | nil => exact List.Pairwise.nil
  | cons a l ih =>
    rw [List.pairwise_cons] at hl
    unfold stableSort
    exact pairwise_insert key before hb a _ (ih hl.2)
      fun b hb' => hl.1 b ((perm_stableSort before l).mem_iff.mp hb')

/-- A strictly increasing map of `Fin n` into the numbers below `n` is the inclusion. -/
theorem eq_of_strictMono (f : Fin n → Fin n) (hf : StrictMono f) (p : Fin n) : f p = p := by
  have hs : Function.Surjective f := Finite.injective_iff_surjective.mp hf.injective
  have := Subsingleton.elim (StrictMono.orderIsoOfSurjective f hf hs) (OrderIso.refl (Fin n))
  exact congrArg (fun e : Fin n ≃o Fin n => e p) this

/-- The stable sort by the key puts at place `p` the position of rank `p`. -/
theorem rank_sortedFrom (key : Fin n → α) (before : Fin n → Fin n → Bool)
    (hb : ∀ a b, before a b = true ↔ key a < key b) (p : Fin n) :
    rank key (sortedFrom before p) = p.val := by
  have hp := List.pairwise_iff_get.mp (pairwise_sorted key before hb (List.finRange n) (List.pairwise_lt_finRange n))
  have hm : StrictMono fun p : Fin n => (⟨rank key (sortedFrom before p), rank_lt key _⟩ : Fin n) := by
    intro p q hpq
    exact rank_lt_of_before (hp (p.cast (length_sortPositions n before).symm)
      (q.cast (length_sortPositions n before).symm) hpq)
  exact Fin.ext_iff.mp (eq_of_strictMono _ hm p)

/-! ## Striking out the minimum, again and again -/

section Strike

variable [OrderTop α]

open Classical in
/-- Strike out the first least position. -/
noncomputable def strike (e : Fin n → α) : Fin n → α := fun j => if rank e j = 0 then ⊤ else e j

/-- A rank below the number of entries less than the top is the rank of such an entry. -/
theorem exists_rank_lt_top (e : Fin n → α) (S : Finset (Fin n)) (hS : ∀ a ∈ S, e a < ⊤) (k : ℕ) (hk : k < S.card) :
    ∃ j, rank e j = k ∧ e j < ⊤ := by
  classical
  obtain ⟨j, hj⟩ := exists_rank e k (hk.trans_le (by simpa using Finset.card_le_univ S))
  refine ⟨j, hj, lt_of_le_of_ne le_top fun he => ?_⟩
  have : S ⊆ Finset.univ.filter fun a => Before e a j := by
    intro a ha
    simp only [Finset.mem_filter, Finset.mem_univ, true_and]
    exact .inl (he ▸ hS a ha)
  have := Finset.card_le_card this
  rw [← hj] at hk
  exact absurd hk (not_lt.mpr this)

/-- After `k` strikes the entries of rank below `k` are struck and the others stand. -/
theorem strike_iterate (e : Fin n → α) (S : Finset (Fin n)) (hS : ∀ a ∈ S, e a < ⊤) (k : ℕ) (hk : k ≤ S.card) :
    strike^[k] e = fun j => if rank e j < k then ⊤ else e j := by
  classical
  induction k with
  | zero => funext j; simp
  | succ k ih =>
    rw [Function.iterate_succ_apply', ih (by omega)]
    obtain ⟨j₀, hj₀, htop⟩ := exists_rank_lt_top e S hS k (by omega)
    have hz : rank (fun j => if rank e j < k then ⊤ else e j) j₀ = 0 := by
      rw [rank_eq_zero_iff]
      intro a ha
      unfold Before
      beta_reduce
      rw [if_neg (by omega : ¬ rank e j₀ < k)]
      by_cases hak : rank e a < k
      · rw [if_pos hak]; exact .inl htop
      · rw [if_neg hak]
        refine (rank_lt_iff e j₀ a).mp ?_
        have : rank e a ≠ rank e j₀ := fun h => ha (rank_injective e h)
        omega
    funext j
    unfold strike
    by_cases hj : j = j₀
    · subst hj; rw [if_pos hz, if_pos (by omega)]
    · have h1 : ¬ rank (fun j => if rank e j < k then ⊤ else e j) j = 0 :=
        fun h => hj (rank_injective _ (h.trans hz.symm))
      have h2 : rank e j ≠ k := fun h => hj (rank_injective e (h.trans hj₀.symm))
      rw [if_neg h1]
      beta_reduce
      by_cases h3 : rank e j < k
      · rw [if_pos h3, if_pos (by omega)]
      · rw [if_neg h3, if_neg (by omega)]

/-- The first least position after `k` strikes is the one of rank `k`. -/
theorem rank_strike_iterate (e : Fin n → α) (S : Finset (Fin n)) (hS : ∀ a ∈ S, e a < ⊤) (k : ℕ) (hk : k < S.card)
    (j : Fin n) : rank (strike^[k] e) j = 0 ↔ rank e j = k := by
  classical
  obtain ⟨j₀, hj₀, htop⟩ := exists_rank_lt_top e S hS k hk
  have hz : rank (strike^[k] e) j₀ = 0 := by
    rw [strike_iterate e S hS k hk.le, rank_eq_zero_iff]
    intro a ha
    unfold Before
    beta_reduce
    rw [if_neg (by omega : ¬ rank e j₀ < k)]
    by_cases hak : rank e a < k
    · rw [if_pos hak]; exact .inl htop
    · rw [if_neg hak]
      refine (rank_lt_iff e j₀ a).mp ?_
      have : rank e a ≠ rank e j₀ := fun h => ha (rank_injective e h)
      omega
  constructor
  · intro h
    rw [rank_injective _ (h.trans hz.symm)]; exact hj₀
  · intro h
    rw [rank_injective e (h.trans hj₀.symm)]; exact hz

end Strike

end Cert.Knn
-- ==== Proof.KerPick.lean ====
/-
  The neighbour indicator of a row block, read at an index: entry (r, j) is 1 when column `j` has one of the nine least
  masked distances of row `r`, ties going to the lower column, and 0 otherwise; rows past the last point are zero.
-/
module

public import proofs.«01_k».proof.Proof.Body
public import proofs.«01_k».proof.Proof.Rank
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen
open Cert.Knn

/-! ## One round -/

/-- The first least entry of each row, as a mask. -/
def selOf (d : FVec Ideal S128x10240 .f32) : IVec S128x10240 1 := k0_pay11 colOf d

/-- The entries with the first least of each row raised to +∞. -/
def nextOf (d : FVec Ideal S128x10240 .f32) : FVec Ideal S128x10240 .f32 := k0_pay12 colOf d

/-- A mask as zeros and ones. -/
def oneHot (b : IVec S128x10240 1) : FVec Ideal S128x10240 .f32 := sitofp .f32 (extui 32 b natLt_1_32)

/-- The signed value of the least word of a family is the least of the signed values. -/
theorem toInt_minsi (a b : BitVec 32) : (IntOp.minsi a b).toInt = min a.toInt b.toInt := by
  unfold IntOp.minsi
  simp only [BitVec.slt]
  split <;> rename_i h <;> simp only [decide_eq_true_eq, not_lt] at h
  · rw [min_eq_left h.le]
  · rw [min_eq_right h]

/-- The least word of a family whose values are column numbers on a set and a large word off it is the least column of
    the set. -/
theorem fold_minsi_eq (p : Fin 10240 → Prop) [DecidablePred p] (j₀ : Fin 10240) (h₀ : p j₀)
    (hmin : ∀ x, p x → j₀ ≤ x) :
    Finset.fold IntOp.minsi 2147483647#32 (fun x : Fin 10240 => if p x then BitVec.ofNat 32 x else 1073741824#32)
      Finset.univ = BitVec.ofNat 32 j₀ := by
  have hv : ∀ x : Fin 10240, (BitVec.ofNat 32 x.val).toInt = x.val := fun x => by
    have := x.isLt
    rw [BitVec.toInt_eq_toNat_of_lt] <;> simp only [BitVec.toNat_ofNat] <;> omega
  have hc : (1073741824#32).toInt = 1073741824 := by decide
  have hi : (2147483647#32).toInt = 2147483647 := by decide
  refine BitVec.eq_of_toInt_eq ?_
  rw [Finset.fold_hom (op' := min) (m := BitVec.toInt) (fun a b => (toInt_minsi a b).symm ▸ rfl) |>.symm]
  apply le_antisymm
  · rw [Finset.fold_min_le]
    right
    refine ⟨j₀, Finset.mem_univ _, ?_⟩
    simp [h₀]
  · rw [Finset.le_fold_min]
    refine ⟨?_, fun x _ => ?_⟩
    · rw [hv, hi]; omega
    · rw [hv]
      split
      · rename_i h
        rw [hv]
        exact_mod_cast hmin x h
      · rw [hc]; omega

/-- A round selects in each row the position of rank 0. -/
theorem sel_iff (d : FVec Ideal S128x10240 .f32) (r : Fin 128) (j : Fin 10240) :
    selOf d (ix2 r j) = 1#1 ↔ rank (fun a => d (ix2 r a)) j = 0 := by
  obtain ⟨j₀, h₀⟩ := exists_rank (fun a => (d (ix2 r a) : EReal)) 0 (by omega)
  have hz := (rank_eq_zero_iff (fun a => (d (ix2 r a) : EReal)) j₀).mp h₀
  have hm : Finset.fold min (Ideal.ofBits .f32 2139095040#32) (fun x : Fin 10240 => d (ix2 r x)) Finset.univ
      = d (ix2 r j₀) := by
    apply le_antisymm
    · rw [Finset.fold_min_le]
      exact .inr ⟨j₀, Finset.mem_univ _, le_rfl⟩
    · rw [Finset.le_fold_min]
      refine ⟨?_, fun x _ => ?_⟩
      · rw [show Ideal.ofBits .f32 2139095040#32 = ⊤ by simp [Ideal.ofBits, Ideal.ieee]]
        exact le_top
      · by_cases hx : x = j₀
        · rw [hx]
        · exact (hz x hx).le
  have hf : selOf d (ix2 r j) = IntOp.cmpi .eq (BitVec.ofNat 32 j) (BitVec.ofNat 32 j₀) := by
    unfold selOf
    pointwise [k0_pay11, colOf]
    rw [hm]
    refine congrArg (IntOp.cmpi .eq (BitVec.ofNat 32 j.val)) ?_
    refine fold_minsi_eq (fun x => d (ix2 r x) = d (ix2 r j₀)) j₀ rfl fun x hx => ?_
    by_contra hlt
    rcases hz x (fun h => hlt (h ▸ le_rfl)) with h | ⟨-, h⟩
    · exact absurd hx h.ne'
    · exact hlt h.le
  rw [hf]
  have he : IntOp.cmpi .eq (BitVec.ofNat 32 j.val) (BitVec.ofNat 32 j₀.val) = 1#1 ↔ j = j₀ := by
    unfold IntOp.cmpi
    constructor
    · intro h
      have h' : BitVec.ofNat 32 j.val = BitVec.ofNat 32 j₀.val := by
        by_contra hne
        rw [show (BitVec.ofNat 32 j.val == BitVec.ofNat 32 j₀.val) = false from beq_eq_false_iff_ne.mpr hne] at h
        exact absurd h (show ¬ BitVec.ofBool false = 1#1 by decide)
      have := congrArg BitVec.toNat h'
      simp only [BitVec.toNat_ofNat] at this
      refine Fin.ext ?_
      have := j.isLt
      have := j₀.isLt
      omega
    · rintro rfl
      simp
  rw [he]
  constructor
  · rintro rfl; exact h₀
  · intro h; exact rank_injective _ (h.trans h₀.symm)

/-- The next round's row is this round's with its first least entry struck out. -/
theorem next_row (d : FVec Ideal S128x10240 .f32) (r : Fin 128) :
    (fun a => (nextOf d (ix2 r a) : EReal)) = strike fun a => d (ix2 r a) := by
  funext a
  have h : nextOf d (ix2 r a) = if selOf d (ix2 r a) = 1#1 then (⊤ : EReal) else d (ix2 r a) := by
    unfold nextOf
    pointwise [k0_pay12]
    rw [show Ideal.ofBits .f32 2139095040#32 = ⊤ by simp [Ideal.ofBits, Ideal.ieee]]
    rfl
  rw [h]
  unfold strike
  simp only [sel_iff]

open Classical in
/-- The one-hot entry of a round. -/
theorem oneHot_sel (d : FVec Ideal S128x10240 .f32) (r : Fin 128) (j : Fin 10240) :
    (oneHot (selOf d) (ix2 r j) : EReal) = if rank (fun a => d (ix2 r a)) j = 0 then 1 else 0 := by
  have h : (oneHot (selOf d) (ix2 r j) : EReal)
      = ((((selOf d (ix2 r j)).setWidth 32).toInt : ℝ) : EReal) := rfl
  rw [h]
  by_cases hs : selOf d (ix2 r j) = 1#1
  · rw [hs, if_pos ((sel_iff d r j).mp hs)]
    simp
  · rw [if_neg fun h' => hs ((sel_iff d r j).mpr h')]
    have : selOf d (ix2 r j) = 0#1 := by
      generalize selOf d (ix2 r j) = b at hs ⊢
      revert hs; revert b; decide
    rw [this]
    simp

/-! ## The nine rounds -/

/-- The rows before round `k`. -/
def rnd (d : FVec Ideal S128x10240 .f32) : ℕ → FVec Ideal S128x10240 .f32
  | 0 => d
  | k + 1 => nextOf (rnd d k)

/-- The one-hot selection of round `k`. -/
def hot (d : FVec Ideal S128x10240 .f32) (k : ℕ) : FVec Ideal S128x10240 .f32 := oneHot (selOf (rnd d k))

/-- Nine rounds of selection, summed. -/
def nine (d : FVec Ideal S128x10240 .f32) : FVec Ideal S128x10240 .f32 :=
  addf (addf (addf (addf (addf (addf (addf (addf (addf (broadcast S128x10240 (Scalar.ofBits .f32 0x00000000#32))
    (hot d 0)) (hot d 1)) (hot d 2)) (hot d 3)) (hot d 4)) (hot d 5)) (hot d 6)) (hot d 7)) (hot d 8)

/-- A row before round `k` is the row with its first least entry struck out `k` times. -/
theorem rnd_row (d : FVec Ideal S128x10240 .f32) (r : Fin 128) (k : ℕ) :
    (fun a => (rnd d k (ix2 r a) : EReal)) = strike^[k] fun a => d (ix2 r a) := by
  induction k with
  | zero => rfl
  | succ k ih =>
    have h : rnd d (k + 1) = nextOf (rnd d k) := by rw [rnd]
    rw [Function.iterate_succ_apply', ← ih, h, next_row]

/-- Rows past the last point zeroed. -/
def keep (w : BitVec 32) (v : FVec Ideal S128x10240 .f32) : FVec Ideal S128x10240 .f32 :=
  select (broadcastTo S128x10240 (shapeCast S128x1 (cmpi .slt (addi (broadcast S128x1 (Scalar.muli w 128#32))
    (iota .tc S128x1 32 [0] iota_S128x1_d0_w32)) (broadcast S128x1 10000#32)) shapeCasts_S128x1_S128x1)
    broadcasts_S128x1_S128x10240) v (broadcast S128x10240 (Scalar.ofBits .f32 0x00000000#32))

/-- The indicator is the nine rounds of selection on the masked distances. -/
theorem pickOf_eq (w : BitVec 32) (x0 : Vec Ideal S10240x4 .f32) (x1 : Vec Ideal S128x4 .f32) :
    pickOf w x0 x1 = keep w (nine (k0_pay7 w x0 x1)) := by
  have h10 : k0_pay10 w x0 x1 = nextOf (k0_pay7 w x0 x1) := rfl
  have h9 : k0_pay9 w x0 x1 = addf (broadcast S128x10240 (Scalar.ofBits .f32 0x00000000#32))
      (oneHot (selOf (k0_pay7 w x0 x1))) := rfl
  have h13 : ∀ d, k0_pay13 (F := Ideal) colOf d = selOf (nextOf d) := fun d => rfl
  have h14 : ∀ d, k0_pay14 (F := Ideal) colOf d = nextOf (nextOf d) := fun d => by
    unfold k0_pay14; rw [h13]; rfl
  have h15 : ∀ d, k0_pay15 (F := Ideal) colOf d = selOf (nextOf (nextOf d)) := fun d => by
    unfold k0_pay15; rw [h14]; rfl
  have h17 : ∀ d, k0_pay17 (F := Ideal) colOf d = nextOf (nextOf (nextOf d)) := fun d => by
    unfold k0_pay17; rw [h14, h15]; rfl
  have h16 : ∀ s d, k0_pay16 (F := Ideal) colOf s d = addf (addf (addf s (oneHot (selOf d))) (oneHot (selOf (nextOf d))))
      (oneHot (selOf (nextOf (nextOf d)))) := fun s d => by
    unfold k0_pay16; rw [h13, h15]; rfl
  have h18 : ∀ d, k0_pay18 (F := Ideal) colOf d = shapeCast S128x1 (multiReduction .minimumf [1] S128
      (nextOf (nextOf (nextOf d))) 0x7F800000#32 reduces_S128x10240_S128 (.inl rfl) rfl) shapeCasts_S128_S128x1 :=
    fun d => by unfold k0_pay18; rw [h17]
  have h19 : ∀ d, k0_pay19 (F := Ideal) colOf (k0_pay17 colOf d) (k0_pay18 colOf d)
      = selOf (nextOf (nextOf (nextOf d))) := fun d => by
    rw [h17, h18]; rfl
  have h20 : ∀ d, k0_pay20 (F := Ideal) colOf (k0_pay17 colOf d) (k0_pay18 colOf d)
      = nextOf (nextOf (nextOf (nextOf d))) := fun d => by
    unfold k0_pay20; rw [h19, h17]; rfl
  have h21 : ∀ d, k0_pay21 (F := Ideal) colOf (k0_pay17 colOf d) (k0_pay18 colOf d)
      = selOf (nextOf (nextOf (nextOf (nextOf d)))) := fun d => by
    unfold k0_pay21; rw [h20]; rfl
  have h22 : ∀ d, k0_pay22 (F := Ideal) colOf (k0_pay17 colOf d) (k0_pay18 colOf d)
      = nextOf (nextOf (nextOf (nextOf (nextOf d)))) := fun d => by
    unfold k0_pay22; rw [h21, h20]; rfl
  have h23 : ∀ d, k0_pay23 (F := Ideal) colOf (k0_pay17 colOf d) (k0_pay18 colOf d)
      = selOf (nextOf (nextOf (nextOf (nextOf (nextOf d))))) := fun d => by
    unfold k0_pay23; rw [h22]; rfl
  have h25 : ∀ d, k0_pay25 (F := Ideal) colOf (k0_pay17 colOf d) (k0_pay18 colOf d)
      = nextOf (nextOf (nextOf (nextOf (nextOf (nextOf d))))) := fun d => by
    unfold k0_pay25; rw [h23, h22]; rfl
  have h24 : ∀ s d, k0_pay24 (F := Ideal) colOf s (k0_pay17 colOf d) (k0_pay18 colOf d)
      = addf (addf (addf s (oneHot (selOf (nextOf (nextOf (nextOf d))))))
        (oneHot (selOf (nextOf (nextOf (nextOf (nextOf d)))))))
        (oneHot (selOf (nextOf (nextOf (nextOf (nextOf (nextOf d))))))) := fun s d => by
    unfold k0_pay24; rw [h19, h21, h23]; rfl
  have h26 : ∀ d, k0_pay26 (F := Ideal) colOf (k0_pay17 colOf d) (k0_pay18 colOf d)
      = cmpf .oeq (nextOf (nextOf (nextOf (nextOf (nextOf (nextOf d))))))
        (broadcastTo S128x10240 (shapeCast S128x1 (multiReduction .minimumf [1] S128
          (nextOf (nextOf (nextOf (nextOf (nextOf (nextOf d)))))) 0x7F800000#32 reduces_S128x10240_S128 (.inl rfl) rfl)
          shapeCasts_S128_S128x1) broadcasts_S128x1_S128x10240) := fun d => by
    unfold k0_pay26; rw [h25]
  have h27 : ∀ s (g : FVec Ideal S128x10240 .f32), k0_pay27 (F := Ideal) colOf (Scalar.muli w 128#32) s g
        (cmpf .oeq g (broadcastTo S128x10240 (shapeCast S128x1 (multiReduction .minimumf [1] S128
          g 0x7F800000#32 reduces_S128x10240_S128 (.inl rfl) rfl) shapeCasts_S128_S128x1)
          broadcasts_S128x1_S128x10240)) 1073741824#32
      = keep w (addf (addf s (oneHot (selOf g))) (oneHot (selOf (nextOf g)))) := fun s g => rfl
  unfold pickOf
  rw [h24, h25, h26, h27, h16, h10, h9]
  unfold nine hot
  simp only [rnd]

open Classical in
/-- The nine rounds select the ranks below nine, when at least nine entries are finite. -/
theorem nine_eq (d : FVec Ideal S128x10240 .f32) (r : Fin 128) (j : Fin 10240) (S : Finset (Fin 10240))
    (hS : ∀ a ∈ S, (d (ix2 r a) : EReal) < ⊤) (h9 : 9 ≤ S.card) :
    (nine d (ix2 r j) : EReal) = if rank (fun a => (d (ix2 r a) : EReal)) j < 9 then 1 else 0 := by
  have hk : ∀ k < 9, (hot d k (ix2 r j) : EReal)
      = if rank (fun a => (d (ix2 r a) : EReal)) j = k then 1 else 0 := fun k hk => by
    unfold hot
    rw [oneHot_sel, rnd_row]
    simp only [rank_strike_iterate (fun a => (d (ix2 r a) : EReal)) S hS k (by omega) j]
  have hz : (Scalar.ofBits .f32 0x00000000#32 : Ideal .f32) = (0 : EReal) := by
    show Ideal.ofBits .f32 0#32 = 0
    simp [Ideal.ofBits, Ideal.ieee]
  have h : (nine d (ix2 r j) : EReal) = (Scalar.ofBits .f32 0x00000000#32 : Ideal .f32)
      + hot d 0 (ix2 r j) + hot d 1 (ix2 r j) + hot d 2 (ix2 r j) + hot d 3 (ix2 r j) + hot d 4 (ix2 r j)
      + hot d 5 (ix2 r j) + hot d 6 (ix2 r j) + hot d 7 (ix2 r j) + hot d 8 (ix2 r j) := rfl
  rw [h, hk 0 (by omega), hk 1 (by omega), hk 2 (by omega), hk 3 (by omega), hk 4 (by omega), hk 5 (by omega),
    hk 6 (by omega), hk 7 (by omega), hk 8 (by omega), hz]
  generalize rank (fun a => (d (ix2 r a) : EReal)) j = q
  by_cases hq : q < 9
  · rw [if_pos hq]
    interval_cases q <;> simp
  · rw [if_neg hq]
    have : ∀ k < 9, q ≠ k := fun k hk => by omega
    simp [this]

end Cert.KernelIdeal.Hand

end
-- ==== Proof.KerPoints.lean ====
/-
  The kernel's inputs: its first window is the whole array of points, padded with zeros to 10240 rows of four, at every
  grid point; its second is rows 128·t … 128·t + 127 of the same array at grid point `t` below 80.
-/
module

public import proofs.«01_k».proof.Proof.KernelRun
public import Idealize.ShloMosaic.Lib.Pointwise
public import Idealize.ShloMosaic.Lib.Routing.OpsSet

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

variable (m : (ℓ : Loc nD τ sig) → Buf (Elt Ideal) ℓ)

/-- The zero-padded points: the argument written over a table of zeros at row 0, column 0. -/
def padded (x : FVec Ideal S10000x3 .f32) : FVec Ideal S10240x4 .f32 :=
  Host.scatter scatter_S10240x4_S2_S10000x3_01_n_01_0 (fun _ b => b)
    (broadcastInDim S10240x4 ![] bcast_S_S10240x4 (constant S_ .f32 0x00000000#32))
    (concatenate S2 0 [⟨S1, broadcastInDim S1 ![] bcast_S_S1 (constantI S_ 32 0#32)⟩,
      ⟨S1, broadcastInDim S1 ![] bcast_S_S1 (constantI S_ 32 0#32)⟩] concatenates_S1_S1_S2_d0) x

/-- The array the windows are on, as the region finds it. -/
theorem V_main_v4 (c : Dev nD) : V m c main_v4 = padded (m ((c : Thread nD τ).loc main_arg0)) := by
  show StableHlo.after hostOps0 _ (Proc.devRef .tc main_v4) = _
  after_results
  rfl

/-- Every index word of the padding's one window is zero. -/
theorem pad_start (j : S2.Idx) : (concatenate S2 0 [⟨S1, broadcastInDim S1 ![] bcast_S_S1 (constantI S_ 32 0#32)⟩,
      ⟨S1, broadcastInDim S1 ![] bcast_S_S1 (constantI S_ 32 0#32)⟩] concatenates_S1_S1_S2_d0 : IVec S2 32) j = 0#32 := by
  have h : j = ix1 0 ∨ j = ix1 1 := by
    have : j = ix1 (j 0) := by funext a; match a with | ⟨0, _⟩ => rfl
    have h2 : ∀ q : Fin 2, q = 0 ∨ q = 1 := by decide
    rcases h2 (j 0) with h2 | h2
    · exact .inl (this.trans (congrArg ix1 h2))
    · exact .inr (this.trans (congrArg ix1 h2))
  rcases h with rfl | rfl <;> rfl

/-- Where an update of the padding lands: at its own row and column. -/
theorem pad_lands (k : S10000x3.Idx) (n : Fin 10240) (q : Fin 4) :
    scatter_S10240x4_S2_S10000x3_01_n_01_0.resultIdx? k
      (concatenate S2 0 [⟨S1, broadcastInDim S1 ![] bcast_S_S1 (constantI S_ 32 0#32)⟩,
        ⟨S1, broadcastInDim S1 ![] bcast_S_S1 (constantI S_ 32 0#32)⟩] concatenates_S1_S1_S2_d0 : IVec S2 32)
      = some (ix2 n q) ↔ (k 0).val = n.val ∧ (k 1).val = q.val := by
  rw [Routing.resultIdx?_eq_some]
  have hs : ∀ a, scatter_S10240x4_S2_S10000x3_01_n_01_0.start k
      (concatenate S2 0 [⟨S1, broadcastInDim S1 ![] bcast_S_S1 (constantI S_ 32 0#32)⟩,
        ⟨S1, broadcastInDim S1 ![] bcast_S_S1 (constantI S_ 32 0#32)⟩] concatenates_S1_S1_S2_d0 : IVec S2 32) a = 0 := by
    intro a
    unfold ScatterDims.start
    split
    · rw [pad_start]; rfl
    · rfl
  have w0 : scatter_S10240x4_S2_S10000x3_01_n_01_0.window k 0 = (k 0).val := rfl
  have w1 : scatter_S10240x4_S2_S10000x3_01_n_01_0.window k 1 = (k 1).val := rfl
  constructor
  · intro h
    have h0 := h 0
    have h1 := h 1
    rw [hs, w0] at h0
    rw [hs, w1] at h1
    refine ⟨?_, ?_⟩
    · have : ((ix2 n q : S10240x4.Idx) 0).val = n.val := rfl
      omega
    · have : ((ix2 n q : S10240x4.Idx) 1).val = q.val := rfl
      omega
  · rintro ⟨h0, h1⟩ a
    rw [hs]
    match a with
    | ⟨0, _⟩ =>
      show (0 : Int) + (scatter_S10240x4_S2_S10000x3_01_n_01_0.window k 0 : Int) = (n.val : Int)
      rw [w0, h0]; omega
    | ⟨1, _⟩ =>
      show (0 : Int) + (scatter_S10240x4_S2_S10000x3_01_n_01_0.window k 1 : Int) = (q.val : Int)
      rw [w1, h1]; omega

/-- The padded points at a row and column of the argument are the argument there. -/
theorem padded_in (x : FVec Ideal S10000x3 .f32) (n : Fin 10240) (q : Fin 4) (hn : n.val < 10000) (hq : q.val < 3) :
    padded x (ix2 n q) = x (ix2 ⟨n.val, hn⟩ ⟨q.val, hq⟩) := by
  have hk : ∀ k : S10000x3.Idx, (k 0).val = n.val ∧ (k 1).val = q.val → k = ix2 ⟨n.val, hn⟩ ⟨q.val, hq⟩ := by
    rintro k ⟨h0, h1⟩
    funext a
    match a with
    | ⟨0, _⟩ => exact Fin.ext h0
    | ⟨1, _⟩ => exact Fin.ext h1
  have hl := (pad_lands (ix2 ⟨n.val, hn⟩ ⟨q.val, hq⟩) n q).mpr ⟨rfl, rfl⟩
  unfold padded
  exact Routing.scatter_set_hit _ _ _ _ _ _ (fun k h => congrArg x (hk k ((pad_lands k n q).mp h))) _ hl

/-- Elsewhere they are zero. -/
theorem padded_out (x : FVec Ideal S10000x3 .f32) (n : Fin 10240) (q : Fin 4) (h : ¬ (n.val < 10000 ∧ q.val < 3)) :
    (padded x (ix2 n q) : EReal) = 0 := by
  have h' : padded x (ix2 n q) = (broadcastInDim S10240x4 ![] bcast_S_S10240x4 (constant S_ .f32 0x00000000#32) :
      FVec Ideal S10240x4 .f32) (ix2 n q) := by
    refine Routing.scatter_set_miss _ _ _ _ _ fun k hk => ?_
    obtain ⟨h0, h1⟩ := (pad_lands k n q).mp hk
    have : (k 0).val < 10000 := (k 0).isLt
    have : (k 1).val < 3 := (k 1).isLt
    omega
  rw [h']
  show Ideal.ofBits .f32 0#32 = 0
  simp [Ideal.ofBits, Ideal.ieee]

/-! ## The windows -/

/-- The coordinate of grid point `n` is `n`. -/
theorem coord_pt (n : ℕ) (h : n < 81) : (grid0.coords (pt n) 0).val = n := by
  have : ∀ t : Fin cfg0.N, (grid0.coords t 0).val = t.val := by decide +kernel
  rw [this]
  exact Nat.mod_eq_of_lt h

/-- The first window's block is the whole padded array, at every point. -/
theorem iblk0 (c : Dev nD) (t : Fin cfg0.N) : iblk m c 0 t = padded (m ((c : Thread nD τ).loc main_arg0)) := by
  funext j
  rw [← V_main_v4]
  show V m c main_v4 (((cfg0.win 0).blk t).view.emb j) = V m c main_v4 j
  congr 1
  funext a
  apply Fin.ext
  match a with
  | ⟨0, _⟩ => show 0 * 10240 + 1 * (j 0).val = (j 0).val; omega
  | ⟨1, _⟩ => show 0 * 4 + 1 * (j 1).val = (j 1).val; omega

/-- The second window's block is a row block of it. -/
theorem iblk1 (c : Dev nD) (n : ℕ) (hn : n < 80) (r : Fin 128) (q : Fin 4) :
    iblk m c 1 (pt n) (ix2 r q)
      = padded (m ((c : Thread nD τ).loc main_arg0)) (ix2 ⟨128 * n + r.val, by have := r.isLt; omega⟩ q) := by
  rw [← V_main_v4]
  have hi : ∀ t : Fin cfg0.N, win0_1.index t 0 = min t.val 79 ∧ win0_1.index t 1 = 0 := by decide +kernel
  show V m c main_v4 (((cfg0.win 1).blk (pt n)).view.emb (ix2 r q)) = V m c main_v4 _
  congr 1
  funext a
  apply Fin.ext
  have hp : (pt n).val = n := Nat.mod_eq_of_lt (by omega)
  obtain ⟨h0, h1⟩ := hi (pt n)
  rw [hp] at h0
  match a with
  | ⟨0, _⟩ => show win0_1.index (pt n) 0 * 128 + 1 * r.val = 128 * n + r.val; rw [h0, min_eq_left (by omega)]; omega
  | ⟨1, _⟩ => show win0_1.index (pt n) 1 * 4 + 1 * q.val = q.val; rw [h1]; omega

end Cert.KernelIdeal.Hand

end
-- ==== Proof.Loss.lean ====
/-
  The loss both programs compute: for each point the distance between its smoothed position and itself, averaged.
-/
module

public import Idealize.ShloMosaic.Lib.Pointwise
public import proofs.«01_k».proof.Proof.Rank

@[expose] public section

noncomputable section

namespace Cert.Knn

open Idealize.ShloMosaic

/-- A family of 10000 points of three coordinates. -/
abbrev Pts := Fin 10000 → Fin 3 → EReal

/-- The mean distance from `X` to `P`, as both programs compute it. -/
def lossF (X P : Pts) : EReal :=
  Ideal.div (∑ i, Ideal.sqrt (∑ q, (X i q - P i q) * (X i q - P i q))) (Ideal.ofBits .f32 1176256512#32)

/-- A point's squared norm. -/
def nrm (P : Pts) (i : Fin 10000) : EReal := ∑ q, P i q * P i q

/-- The inner product of two points. -/
def inner (P : Pts) (i j : Fin 10000) : EReal := ∑ q, P i q * P j q

/-- The squared distance of two points, expanded. -/
def dist (P : Pts) (i j : Fin 10000) : EReal :=
  (nrm P i + nrm P j) - Ideal.ofBits .f32 1073741824#32 * inner P i j

/-- `j` is one of the nine nearest to `i`: its rank among the distances from `i` is one of 1, …, 9. -/
def Near (P : Pts) (i j : Fin 10000) : Prop := 1 ≤ rank (dist P i) j ∧ rank (dist P i) j ≤ 9

end Cert.Knn

end
-- ==== Proof.KerSums.lean ====
/-
  The kernel's result as sums: the first scratch holds for each point the weighted sum over the columns of its indicator
  row, the second the same over the rows, the fourth column of each counts, and the loss is read off the two.
-/
module

public import proofs.«01_k».proof.Proof.KerPick
public import proofs.«01_k».proof.Proof.KerPoints
public import proofs.«01_k».proof.Proof.Loss

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

variable (m : (ℓ : Loc nD τ sig) → Buf (Elt Ideal) ℓ)

/-- The one that stands in the fourth column. -/
def one3 (q : Fin 4) : EReal := if q = 3 then 1 else 0

/-- The indicator of the fourth column, as the kernel computes it from the column number. -/
theorem one3_word (q : Fin 4) :
    (FloatOps.sitofp .f32 (BitVec.setWidth 32 (IntOp.cmpi .eq (BitVec.ofNat 32 q.val) 3#32)) : Ideal .f32) = one3 q := by
  show (((BitVec.setWidth 32 (IntOp.cmpi .eq (BitVec.ofNat 32 q.val) 3#32)).toInt : ℝ) : EReal) = one3 q
  unfold one3
  have h : ∀ q : Fin 4, (BitVec.setWidth 32 (IntOp.cmpi .eq (BitVec.ofNat 32 q.val) 3#32)).toInt = if q = 3 then 1 else 0 := by
    decide
  rw [h]
  split <;> simp

/-- A row block's rows of the first scratch. -/
theorem rowsAt_apply (w : BitVec 32) (x0 : Vec Ideal S10240x4 .f32) (x1 : Vec Ideal S128x4 .f32) (r : Fin 128) (q : Fin 4) :
    (rowsAt w x0 x1 (ix2 r q) : EReal)
      = ∑ j : Fin 10240, pickOf w x0 x1 (ix2 r j) * ((x0 (ix2 j q) : EReal) + one3 q) := by
  have h : rowsAt w x0 x1 = k0_pay2 (matmul dot_S128x10240_S10240x4_S128x4_1_0_0_1_n_n (some .fp32) (pickOf w x0 x1)
      (addf (k0_pay5 x0) (sitofp .f32 (extui 32 (cmpi .eq (iota .tc S10240x4 32 [1] iota_S10240x4_d1_w32)
        (broadcast S10240x4 3#32)) natLt_1_32))) (constant S128x4 .f32 0x00000000#32)) := rfl
  rw [h]
  generalize pickOf w x0 x1 = A
  pointwise [k0_pay2, k0_pay5]
  simp only [one3_word]

/-- A row block's addition to the second scratch. -/
theorem accAt_apply (w : BitVec 32) (x0 : Vec Ideal S10240x4 .f32) (x1 : Vec Ideal S128x4 .f32) (s : Vec Ideal S10240x4 .f32)
    (j : Fin 10240) (q : Fin 4) :
    (accAt w x0 x1 s (ix2 j q) : EReal)
      = (s (ix2 j q) : EReal) + ∑ r : Fin 128, pickOf w x0 x1 (ix2 r j) * ((x1 (ix2 r q) : EReal) + one3 q) := by
  unfold accAt
  generalize pickOf w x0 x1 = A
  pointwise [k0_pay3, k0_pay28, k0_pay6]
  simp only [one3_word]

/-- The points of the launch. -/
abbrev argOf (c : Dev nD) : FVec Ideal S10000x3 .f32 := m ((c : Thread nD τ).loc main_arg0)

/-- The indicator of the whole table: row `n` is row `n % 128` of block `n / 128`. -/
def pick (c : Dev nD) (n : ℕ) (j : Fin 10240) : EReal :=
  pickOf (F := Ideal) (wordAt (pt (n / 128))) (iblk m c 0 (pt (n / 128))) (iblk m c 1 (pt (n / 128)))
    (ix2 ⟨n % 128, Nat.mod_lt _ (by decide)⟩ j)

/-- A padded point with one more in its fourth column. -/
def wt (c : Dev nD) (n : Fin 10240) (q : Fin 4) : EReal := (padded (argOf m c) (ix2 n q) : EReal) + one3 q

/-- An entry of the table of row sums is the sum over the picked rows. -/
theorem rowsTbl_apply (c : Dev nD) (n : Fin 10240) (q : Fin 4) :
    (rowsTbl m c (ix2 n q) : EReal) = ∑ j : Fin 10240, pick m c n j * wt m c j q := by
  have h : rowsTbl m c (ix2 n q) = rowsAt (wordAt (pt (n.val / 128))) (iblk m c 0 (pt (n.val / 128)))
      (iblk m c 1 (pt (n.val / 128))) (ix2 ⟨n.val % 128, Nat.mod_lt _ (by decide)⟩ q) := rfl
  rw [h, rowsAt_apply]
  refine Finset.sum_congr rfl fun j _ => ?_
  unfold pick wt
  rw [iblk0]

/-- An entry of the running total after block `n` is the sum over the rows of the blocks up to `n` that picked it. -/
theorem accN_apply (c : Dev nD) (n : ℕ) (hn : n < 80) (j : Fin 10240) (q : Fin 4) :
    (accN m c n (ix2 j q) : EReal) = ∑ t ∈ Finset.range (n + 1), ∑ r : Fin 128,
      pick m c (128 * t + r.val) j * (if h : 128 * t + r.val < 10240 then wt m c ⟨128 * t + r.val, h⟩ q else 0) := by
  have hstep : ∀ t < 80, ∀ s : Vec Ideal S10240x4 .f32,
      (accAt (wordAt (pt t)) (iblk m c 0 (pt t)) (iblk m c 1 (pt t)) s (ix2 j q) : EReal)
        = (s (ix2 j q) : EReal) + ∑ r : Fin 128, pick m c (128 * t + r.val) j
          * (if h : 128 * t + r.val < 10240 then wt m c ⟨128 * t + r.val, h⟩ q else 0) := by
    intro t ht s
    rw [accAt_apply]
    refine congrArg ((s (ix2 j q) : EReal) + ·) (Finset.sum_congr rfl fun r _ => ?_)
    have hr := r.isLt
    rw [dif_pos (show 128 * t + r.val < 10240 by omega), iblk1 m c t ht]
    unfold pick wt
    have e1 : (128 * t + r.val) / 128 = t := by omega
    have e2 : (⟨(128 * t + r.val) % 128, Nat.mod_lt _ (by decide)⟩ : Fin 128) = r := Fin.ext (by show (128 * t + r.val) % 128 = r.val; omega)
    rw [e1, e2]
  induction n with
  | zero =>
    rw [accN, hstep 0 (by omega)]
    have hz : (k0_pay1 (F := Ideal) (ix2 j q) : EReal) = 0 := by
      show Ideal.ofBits .f32 0#32 = 0
      simp [Ideal.ofBits, Ideal.ieee]
    rw [hz]
    simp
  | succ n ih =>
    rw [accN, hstep (n + 1) hn, ih (by omega), ← Finset.sum_range_succ]

/-- The second scratch after all row blocks. -/
theorem acc_apply (c : Dev nD) (j : Fin 10240) (q : Fin 4) :
    (accN m c 79 (ix2 j q) : EReal) = ∑ n : Fin 10240, pick m c n j * wt m c n q := by
  rw [accN_apply m c 79 (by omega), Finset.sum_range, ← Fintype.sum_prod_type']
  refine Fintype.sum_equiv (finProdFinEquiv (m := 80) (n := 128)) _ _ fun p => ?_
  have hv : (finProdFinEquiv (m := 80) (n := 128) p).val = 128 * p.1.val + p.2.val := by
    rw [finProdFinEquiv_apply_val]; omega
  have hlt : 128 * p.1.val + p.2.val < 10240 := by have := p.1.isLt; have := p.2.isLt; omega
  rw [dif_pos hlt]
  have he : (⟨128 * p.1.val + p.2.val, hlt⟩ : Fin 10240) = finProdFinEquiv (m := 80) (n := 128) p := Fin.ext hv.symm
  rw [he]
  show _ = pick m c (finProdFinEquiv (m := 80) (n := 128) p).val j * _
  rw [hv]

/-- The two scratches together. -/
def tot (c : Dev nD) (i : Fin 10240) (q : Fin 4) : EReal :=
  (∑ j : Fin 10240, pick m c i j * wt m c j q) + ∑ n : Fin 10240, pick m c n i * wt m c n q

/-- A point by its row and column. -/
def pts (c : Dev nD) : Cert.Knn.Pts := fun i q => argOf m c (ix2 i q)

/-- A row below the last point, among the padded rows. -/
abbrev up (i : Fin 10000) : Fin 10240 := ⟨i.val, by have := i.isLt; omega⟩

/-- A coordinate, among the four columns. -/
abbrev up3 (q : Fin 3) : Fin 4 := ⟨q.val, by have := q.isLt; omega⟩

/-- The smoothed points: the weighted sums over the counts. -/
def smooth (c : Dev nD) : Cert.Knn.Pts := fun i q => Ideal.div (tot m c (up i) (up3 q)) (tot m c (up i) 3)

/-- A sum over the padded rows of a term that is zero past the last point. -/
theorem sum_rows (f : Fin 10240 → EReal) (h : ∀ n : Fin 10240, ¬ n.val < 10000 → f n = 0) :
    ∑ n, f n = ∑ i : Fin 10000, f (up i) := by
  have e : ∑ n : Fin 10240, f n = ∑ n : Fin (10000 + 240), f n := rfl
  rw [e, Fin.sum_univ_add]
  have hz : ∑ k : Fin 240, f (Fin.natAdd 10000 k) = 0 :=
    Finset.sum_eq_zero fun k _ => h _ (by show ¬ (10000 + k.val < 10000); omega)
  rw [hz, add_zero]
  rfl

/-- The kernel's loss is the mean distance from the smoothed points to the points. -/
theorem lossOf_apply (c : Dev nD) : (lossOf m c (ix2 0 0) : EReal) = Cert.Knn.lossF (smooth m c) (pts m c) := by
  have h : lossOf m c = k0_pay4 (rowsTbl m c) (accN m c 79) (padded (argOf m c)) := by
    unfold lossOf
    rw [iblk0]
  rw [h]
  have hr : ∀ n q, (rowsTbl m c (ix2 n q) : EReal) + accN m c 79 (ix2 n q) = tot m c n q := fun n q => by
    rw [rowsTbl_apply, acc_apply]; rfl
  generalize rowsTbl m c = x0 at hr
  generalize accN m c 79 = x1 at hr
  pointwise [k0_pay4]
  simp only [hr]
  unfold Cert.Knn.lossF
  refine congrArg₂ Ideal.div ?_ rfl
  simp only [Finset.univ_unique, Finset.sum_singleton]
  have hw : ∀ n : Fin 10240, IntOp.cmpi .slt (BitVec.ofNat 32 n.val) 10000#32 = if n.val < 10000 then 1#1 else 0#1 := by
    intro n
    have := n.isLt
    have h1 : (BitVec.ofNat 32 n.val).toInt = n.val := by
      rw [BitVec.toInt_eq_toNat_of_lt] <;> simp only [BitVec.toNat_ofNat] <;> omega
    show BitVec.ofBool ((BitVec.ofNat 32 n.val).slt 10000#32) = _
    rw [BitVec.slt, h1, show (10000#32).toInt = 10000 from by decide]
    by_cases hn : n.val < 10000
    · rw [if_pos hn, decide_eq_true (by omega)]; rfl
    · rw [if_neg hn, decide_eq_false (by omega)]; rfl
  rw [sum_rows]
  · refine Finset.sum_congr rfl fun i _ => ?_
    rw [hw, if_pos i.isLt]
    show Ideal.sqrt _ = _
    refine congrArg Ideal.sqrt (Finset.sum_congr rfl fun q _ => ?_)
    have hp : padded (argOf m c) (ix2 (up i) (up3 q)) = pts m c i q := padded_in _ _ _ i.isLt q.isLt
    rw [← hp]
    rfl
  · intro n hn
    rw [hw, if_neg hn]
    rfl

end Cert.KernelIdeal.Hand

end
-- ==== Proof.Near.lean ====
/-
  The nine nearest points, found two ways: by rank among all the distances from a point, itself included at rank 0; and
  by rank among the distances with the point itself, and rows that hold no point, raised to +∞.
-/
module

public import proofs.«01_k».proof.Proof.Loss

@[expose] public section

noncomputable section

namespace Cert.Knn

open Idealize.ShloMosaic

/-- The points with real coordinates. -/
def lift (p : Fin 10000 → Fin 3 → ℝ) : Pts := fun i q => (p i q : EReal)

/-- The factor of the inner product is 2. -/
theorem two_eq : Ideal.ofBits .f32 1073741824#32 = ((2 : ℝ) : EReal) := by
  simp [Ideal.ofBits, Ideal.ieee, -EReal.coe_mul]; norm_num

/-- A finite sum of reals, in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The expanded squared distance of two points with real coordinates is the squared distance. -/
theorem dist_lift (p : Fin 10000 → Fin 3 → ℝ) (i j : Fin 10000) :
    dist (lift p) i j = ((∑ q, (p i q - p j q) ^ 2 : ℝ) : EReal) := by
  unfold dist nrm inner lift
  simp only [← EReal.coe_mul, ← coe_sum, two_eq, ← EReal.coe_add, ← EReal.coe_sub]
  congr 1
  rw [← Finset.sum_add_distrib, Finset.mul_sum, ← Finset.sum_sub_distrib]
  exact Finset.sum_congr rfl fun q _ => by ring

/-- Distances of points with real coordinates are finite. -/
theorem dist_lt_top (p : Fin 10000 → Fin 3 → ℝ) (i j : Fin 10000) : dist (lift p) i j < ⊤ := by
  rw [dist_lift]; exact EReal.coe_lt_top _

/-- Among pairwise distinct points each is strictly nearest to itself. -/
theorem dist_self_lt (p : Fin 10000 → Fin 3 → ℝ) (hp : ∀ i j, i ≠ j → ∃ q, p i q ≠ p j q) (i j : Fin 10000) (h : j ≠ i) :
    dist (lift p) i i < dist (lift p) i j := by
  rw [dist_lift, dist_lift, EReal.coe_lt_coe_iff]
  have h0 : ∑ q, (p i q - p i q) ^ 2 = 0 := by simp
  rw [h0]
  obtain ⟨q, hq⟩ := hp i j h.symm
  exact Finset.sum_pos' (fun _ _ => sq_nonneg _) ⟨q, Finset.mem_univ _, pow_pos_of_ne (sub_ne_zero.mpr hq)⟩
where
  pow_pos_of_ne {x : ℝ} (h : x ≠ 0) : 0 < x ^ 2 := by positivity

/-- The place of a point among the padded rows. -/
def place : Fin 10000 ↪ Fin 10240 := ⟨fun a => ⟨a.val, by have := a.isLt; omega⟩, fun a b h => by
  have h' := congrArg Fin.val h
  exact Fin.ext h'⟩

/-- The place of a point is its number. -/
theorem place_val (a : Fin 10000) : (place a).val = a.val := rfl

/-- Distances from point `i` over the padded rows, raised to the top at the point itself and past the last point. -/
def masked (d : Fin 10000 → EReal) (i : Fin 10000) (j : Fin 10240) : EReal :=
  if h : j.val < 10000 then (if j.val = i.val then ⊤ else d ⟨j.val, h⟩) else ⊤

/-- At the place of another point the masked distance is the distance. -/
theorem masked_place (d : Fin 10000 → EReal) (i a : Fin 10000) (h : a ≠ i) : masked d i (place a) = d a := by
  have ha : (place a).val < 10000 := by rw [place_val]; exact a.isLt
  have hne : ¬ (place a).val = i.val := fun e => h (Fin.ext e)
  unfold masked
  rw [dif_pos ha, if_neg hne]
  rfl

/-- The padded rows of the points other than `i`. -/
def others (i : Fin 10000) : Finset (Fin 10240) := (Finset.univ.erase i).map place

/-- The places of the other points are 9999. -/
theorem card_others (i : Fin 10000) : (others i).card = 9999 := by
  unfold others
  rw [Finset.card_map, Finset.card_erase_of_mem (Finset.mem_univ _), Finset.card_univ, Fintype.card_fin]

/-- At the places of the other points the masked distances are finite. -/
theorem masked_others (d : Fin 10000 → EReal) (hd : ∀ a, d a < ⊤) (i : Fin 10000) (j : Fin 10240) (hj : j ∈ others i) :
    masked d i j < ⊤ := by
  obtain ⟨a, ha, rfl⟩ := Finset.mem_map.mp hj
  rw [masked_place d i a (Finset.ne_of_mem_erase ha)]
  exact hd a

/-- At every other place the masked distance is +∞. -/
theorem masked_not_others (d : Fin 10000 → EReal) (i : Fin 10000) (j : Fin 10240) (hj : j ∉ others i) : masked d i j = ⊤ := by
  unfold masked
  split
  · rename_i h
    rw [if_pos]
    by_contra hne
    refine hj (Finset.mem_map.mpr ⟨⟨j.val, h⟩, Finset.mem_erase.mpr ⟨fun e => hne (Fin.ext_iff.mp e), Finset.mem_univ _⟩, rfl⟩)
  · rfl

/-- The masked rank of a point other than `i` is one less than its rank. -/
theorem rank_masked (d : Fin 10000 → EReal) (hd : ∀ a, d a < ⊤) (i : Fin 10000) (hi : ∀ a, a ≠ i → d i < d a)
    (b : Fin 10000) (hb : b ≠ i) : rank (masked d i) (place b) + 1 = rank d b := by
  classical
  have hs : (Finset.univ.filter fun a => Before (masked d i) a (place b))
      = ((Finset.univ.filter fun a => Before d a b).erase i).map place := by
    ext a
    simp only [Finset.mem_filter, Finset.mem_univ, true_and, Finset.mem_map, Finset.mem_erase]
    constructor
    · intro h
      by_cases ha : a ∈ others i
      · obtain ⟨x, hx, rfl⟩ := Finset.mem_map.mp ha
        have hx := Finset.ne_of_mem_erase hx
        refine ⟨x, ⟨hx, ?_⟩, rfl⟩
        unfold Before at h ⊢
        rw [masked_place d i x hx, masked_place d i b hb] at h
        exact h
      · have h' := h.le
        rw [masked_not_others d i a ha, masked_place d i b hb, top_le_iff] at h'
        exact absurd h' (hd b).ne
    · rintro ⟨x, ⟨hx, h⟩, rfl⟩
      unfold Before at h ⊢
      rw [masked_place d i x hx, masked_place d i b hb]
      exact h
  have hmem : i ∈ Finset.univ.filter fun a => Before d a b := by
    simp only [Finset.mem_filter, Finset.mem_univ, true_and]
    exact .inl (hi b hb)
  have h1 : rank (masked d i) (place b) = ((Finset.univ.filter fun a => Before d a b).erase i).card := by
    rw [← Finset.card_map place, ← hs]
    unfold rank
    congr!
  have h2 : rank d b = (Finset.univ.filter fun a => Before d a b).card := by
    unfold rank
    congr!
  rw [h1, h2, Finset.card_erase_add_one hmem]

/-- A point strictly nearest to itself has rank 0. -/
theorem rank_self (d : Fin 10000 → EReal) (i : Fin 10000) (hi : ∀ a, a ≠ i → d i < d a) : rank d i = 0 :=
  (rank_eq_zero_iff d i).mpr fun a ha => .inl (hi a ha)

/-- The first nine masked ranks are the ranks 1, …, 9. -/
theorem masked_lt_nine_iff (d : Fin 10000 → EReal) (hd : ∀ a, d a < ⊤) (i : Fin 10000) (hi : ∀ a, a ≠ i → d i < d a)
    (j : Fin 10240) :
    rank (masked d i) j < 9 ↔ ∃ h : j.val < 10000, 1 ≤ rank d ⟨j.val, h⟩ ∧ rank d ⟨j.val, h⟩ ≤ 9 := by
  classical
  by_cases hj : j ∈ others i
  · obtain ⟨b, hb, rfl⟩ := Finset.mem_map.mp hj
    have hb := Finset.ne_of_mem_erase hb
    have h := rank_masked d hd i hi b hb
    have e : ∀ h : (place b).val < 10000, (⟨(place b).val, h⟩ : Fin 10000) = b := fun _ => rfl
    constructor
    · intro h9
      have hlt : (place b).val < 10000 := by rw [place_val]; exact b.isLt
      refine ⟨hlt, ?_⟩
      rw [e hlt]; omega
    · rintro ⟨h9, h1, h2⟩
      rw [e] at h1 h2; omega
  · have ht := masked_not_others d i j hj
    have hbig : 9999 ≤ rank (masked d i) j := by
      unfold rank
      rw [← card_others i]
      refine Finset.card_le_card fun a ha => ?_
      simp only [Finset.mem_filter, Finset.mem_univ, true_and]
      exact .inl (ht ▸ masked_others d hd i a ha)
    constructor
    · intro h; omega
    · rintro ⟨h9, h1, -⟩
      have : (⟨j.val, h9⟩ : Fin 10000) = i := by
        by_contra hne
        exact hj (Finset.mem_map.mpr ⟨⟨j.val, h9⟩, Finset.mem_erase.mpr ⟨hne, Finset.mem_univ _⟩, rfl⟩)
      rw [this, rank_self d i hi] at h1
      omega

end Cert.Knn

end
-- ==== Proof.KerNear.lean ====
/-
  The kernel's indicator at pairwise distinct points with real coordinates: 1 at the nine nearest points, 0 elsewhere;
  and so the kernel's sums over the padded rows as sums over the points.
-/
module

public import proofs.«01_k».proof.Proof.KerSums
public import proofs.«01_k».proof.Proof.Near

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen
open Cert.Knn

variable (m : (ℓ : Loc nD τ sig) → Buf (Elt Ideal) ℓ)

/-- A sum over the four columns of a product with a zero in the fourth is the sum over the three coordinates. -/
theorem sum_cols (f : Fin 4 → EReal) (h : f 3 = 0) : ∑ q, f q = ∑ q : Fin 3, f (up3 q) := by
  rw [Fin.sum_univ_four, Fin.sum_univ_three, h, add_zero]
  rfl

/-- The padded rows hold the points in their first three columns. -/
theorem padded_point (c : Dev nD) (n : Fin 10240) (h : n.val < 10000) (q : Fin 3) :
    (padded (argOf m c) (ix2 n (up3 q)) : EReal) = pts m c ⟨n.val, h⟩ q :=
  padded_in _ n (up3 q) h q.isLt

/-- The fourth column of the padded rows is zero. -/
theorem padded_fourth (c : Dev nD) (n : Fin 10240) : (padded (argOf m c) (ix2 n 3) : EReal) = 0 :=
  padded_out _ n 3 (by rintro ⟨-, h⟩; exact absurd h (by decide))

/-- The word test of the mask: the column is the row's own, or past the last point. -/
theorem mask_word (t : ℕ) (ht : t < 80) (r : Fin 128) (j : Fin 10240) :
    IntOp.ori (IntOp.cmpi .eq (BitVec.ofNat 32 j.val) (IntOp.addi (Scalar.muli (BitVec.ofNat 32 t) 128#32) (BitVec.ofNat 32 r.val)))
        (IntOp.cmpi .sge (BitVec.ofNat 32 j.val) 10000#32)
      = if j.val = 128 * t + r.val ∨ 10000 ≤ j.val then 1#1 else 0#1 := by
  have hj := j.isLt
  have hr := r.isLt
  have h1 : (BitVec.ofNat 32 j.val).toInt = j.val := by
    rw [BitVec.toInt_eq_toNat_of_lt] <;> simp only [BitVec.toNat_ofNat] <;> omega
  have ha : IntOp.addi (Scalar.muli (BitVec.ofNat 32 t) 128#32) (BitVec.ofNat 32 r.val) = BitVec.ofNat 32 (128 * t + r.val) := by
    show BitVec.ofNat 32 t * 128#32 + BitVec.ofNat 32 r.val = _
    refine BitVec.eq_of_toNat_eq ?_
    simp only [BitVec.toNat_add, BitVec.toNat_mul, BitVec.toNat_ofNat]
    omega
  have he : IntOp.cmpi .eq (BitVec.ofNat 32 j.val) (BitVec.ofNat 32 (128 * t + r.val))
      = BitVec.ofBool (decide (j.val = 128 * t + r.val)) := by
    show BitVec.ofBool (BitVec.ofNat 32 j.val == BitVec.ofNat 32 (128 * t + r.val)) = _
    congr 1
    rw [Bool.eq_iff_iff, beq_iff_eq, decide_eq_true_iff]
    constructor
    · intro h
      have := congrArg BitVec.toNat h
      simp only [BitVec.toNat_ofNat] at this
      omega
    · intro h; rw [h]
  have hg : IntOp.cmpi .sge (BitVec.ofNat 32 j.val) 10000#32 = BitVec.ofBool (decide (10000 ≤ j.val)) := by
    show BitVec.ofBool ((10000#32).sle (BitVec.ofNat 32 j.val)) = _
    rw [BitVec.sle, h1, show (10000#32).toInt = 10000 from by decide]
    congr 1
    rw [Bool.eq_iff_iff, decide_eq_true_iff, decide_eq_true_iff]
    omega
  rw [ha, he, hg]
  by_cases p : j.val = 128 * t + r.val
  · rw [if_pos (.inl p), decide_eq_true p]
    cases decide (10000 ≤ j.val) <;> rfl
  · by_cases q : 10000 ≤ j.val
    · rw [if_pos (.inr q), decide_eq_true q]
      cases decide (j.val = 128 * t + r.val) <;> rfl
    · rw [if_neg (by tauto), decide_eq_false p, decide_eq_false q]
      rfl

/-- The word test of the last rows: the row holds a point. -/
theorem keep_word (t : ℕ) (ht : t < 80) (r : Fin 128) :
    IntOp.cmpi .slt (IntOp.addi (Scalar.muli (BitVec.ofNat 32 t) 128#32) (BitVec.ofNat 32 r.val)) 10000#32
      = if 128 * t + r.val < 10000 then 1#1 else 0#1 := by
  have hr := r.isLt
  have ha : IntOp.addi (Scalar.muli (BitVec.ofNat 32 t) 128#32) (BitVec.ofNat 32 r.val) = BitVec.ofNat 32 (128 * t + r.val) := by
    show BitVec.ofNat 32 t * 128#32 + BitVec.ofNat 32 r.val = _
    refine BitVec.eq_of_toNat_eq ?_
    simp only [BitVec.toNat_add, BitVec.toNat_mul, BitVec.toNat_ofNat]
    omega
  have h1 : (BitVec.ofNat 32 (128 * t + r.val)).toInt = (128 * t + r.val : ℕ) := by
    rw [BitVec.toInt_eq_toNat_of_lt] <;> simp only [BitVec.toNat_ofNat] <;> omega
  rw [ha]
  show BitVec.ofBool ((BitVec.ofNat 32 (128 * t + r.val)).slt 10000#32) = _
  rw [BitVec.slt, h1, show (10000#32).toInt = 10000 from by decide]
  by_cases hn : 128 * t + r.val < 10000
  · rw [if_pos hn, decide_eq_true (by omega)]; rfl
  · rw [if_neg hn, decide_eq_false (by omega)]; rfl

/-- A row of the masked distances. -/
theorem pay7_row (c : Dev nD) (t : ℕ) (ht : t < 80) (r : Fin 128) (hn : 128 * t + r.val < 10000) (j : Fin 10240) :
    (k0_pay7 (F := Ideal) (BitVec.ofNat 32 t) (iblk m c 0 (pt t)) (iblk m c 1 (pt t)) (ix2 r j) : EReal)
      = masked (dist (pts m c) ⟨128 * t + r.val, hn⟩) ⟨128 * t + r.val, hn⟩ j := by
  have h1 : ∀ q, iblk m c 1 (pt t) (ix2 r q) = padded (argOf m c) (ix2 ⟨128 * t + r.val, by omega⟩ q) := iblk1 m c t ht r
  rw [iblk0]
  generalize iblk m c 1 (pt t) = x1 at h1
  have hz := padded_fourth m c
  have hp := padded_point m c
  generalize padded (argOf m c) = x0 at h1 hz hp
  pointwise [k0_pay7, k0_pay6, k0_pay5]
  rw [mask_word t ht]
  simp only [h1]
  rw [sum_cols (fun q => x0 (ix2 ⟨128 * t + r.val, _⟩ q) * x0 (ix2 ⟨128 * t + r.val, _⟩ q)) (by simp only [hz, mul_zero]),
    sum_cols (fun q => x0 (ix2 j q) * x0 (ix2 j q)) (by simp only [hz, mul_zero]),
    sum_cols (fun q => x0 (ix2 ⟨128 * t + r.val, _⟩ q) * x0 (ix2 j q)) (by simp only [hz, mul_zero])]
  rw [show Ideal.ofBits .f32 2139095040#32 = ⊤ by simp [Ideal.ofBits, Ideal.ieee]]
  unfold masked
  by_cases hj : j.val < 10000
  · rw [dif_pos hj]
    by_cases he : j.val = 128 * t + r.val
    · rw [if_pos (.inl he), if_pos he]; rfl
    · rw [if_neg (by omega), if_neg he]
      show _ - _ * _ = Knn.dist _ _ _
      unfold Knn.dist nrm Knn.inner
      simp only [hp ⟨128 * t + r.val, by omega⟩ hn, hp _ hj]
  · rw [dif_neg hj, if_pos (.inr (by omega))]; rfl

open Classical in
/-- The indicator of the whole table. -/
theorem pick_eq (c : Dev nD) (p : Fin 10000 → Fin 3 → ℝ) (hp : pts m c = lift p) (hd : ∀ i j, i ≠ j → ∃ q, p i q ≠ p j q)
    (n : Fin 10240) (j : Fin 10240) :
    pick m c n j = if ∃ (h : n.val < 10000) (h' : j.val < 10000), Near (lift p) ⟨n.val, h⟩ ⟨j.val, h'⟩ then 1 else 0 := by
  have ht : n.val / 128 < 80 := by have := n.isLt; omega
  have hnr : 128 * (n.val / 128) + n.val % 128 = n.val := by omega
  unfold pick
  rw [pickOf_eq, wordAt, coord_pt _ (by omega)]
  have hk : ∀ (w : BitVec 32) (v : FVec Ideal S128x10240 .f32) (r : Fin 128), keep w v (ix2 r j)
      = Scalar.select (IntOp.cmpi .slt (IntOp.addi (Scalar.muli w 128#32) (BitVec.ofNat 32 r.val)) 10000#32)
          (v (ix2 r j)) (0 : EReal) := by
    intro w v r
    pointwise [keep]
  rw [hk, keep_word _ ht]
  simp only [hnr]
  by_cases hn : n.val < 10000
  · rw [if_pos hn]
    show nine _ _ = _
    have hrow : ∀ a, (k0_pay7 (F := Ideal) (BitVec.ofNat 32 (n.val / 128)) (iblk m c 0 (pt (n.val / 128)))
        (iblk m c 1 (pt (n.val / 128))) (ix2 ⟨n.val % 128, Nat.mod_lt _ (by decide)⟩ a) : EReal)
        = masked (dist (lift p) ⟨n.val, hn⟩) ⟨n.val, hn⟩ a := by
      intro a
      rw [pay7_row m c _ ht ⟨n.val % 128, Nat.mod_lt _ (by decide)⟩ (by show 128 * (n.val / 128) + n.val % 128 < 10000; omega), hp]
      have e : (⟨128 * (n.val / 128) + n.val % 128, by omega⟩ : Fin 10000) = ⟨n.val, hn⟩ := Fin.ext hnr
      show masked (dist (lift p) ⟨128 * (n.val / 128) + n.val % 128, _⟩) ⟨128 * (n.val / 128) + n.val % 128, _⟩ a = _
      rw [e]
    have h9 := nine_eq (k0_pay7 (F := Ideal) (BitVec.ofNat 32 (n.val / 128)) (iblk m c 0 (pt (n.val / 128)))
        (iblk m c 1 (pt (n.val / 128)))) ⟨n.val % 128, Nat.mod_lt _ (by decide)⟩ j (others ⟨n.val, hn⟩)
      (fun a ha => by
        rw [hrow a]
        exact masked_others _ (dist_lt_top p _) _ a ha) (by rw [card_others]; omega)
    rw [h9]
    simp only [hrow]
    have hi := masked_lt_nine_iff _ (dist_lt_top p _) _ (fun a ha => dist_self_lt p hd ⟨n.val, hn⟩ a ha) j
    refine if_congr (hi.trans ?_) rfl rfl
    constructor
    · rintro ⟨h', h⟩; exact ⟨hn, h', h⟩
    · rintro ⟨_, h', h⟩; exact ⟨h', h⟩
  · rw [if_neg hn, if_neg (by rintro ⟨h, -⟩; exact hn h)]
    rfl

end Cert.KernelIdeal.Hand

end
-- ==== Proof.RefSteps.lean ====
/-
  The reference program's result, step by step: the steps named, and each read at an index.
-/
module

public import proofs.«01_k».proof.Proof.Gen.ReferenceIdeal.Run
public import Idealize.ShloMosaic.Lib.Pointwise
public import Idealize.ShloMosaic.Lib.Routing.OpsPair
public import Idealize.ShloMosaic.Lib.Routing.OpsSet
public import proofs.«01_k».proof.Proof.Loss

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen

/-- The squared norms. -/
def norms (x : FVec Ideal S10000x3 .f32) : FVec Ideal S10000 .f32 :=
  Host.reduceAdd (mulf x x) (constant S_ .f32 0x00000000#32) reducesTo_S10000x3_S10000_d1 h_S_

/-- The squared distances, negated. -/
def negDist (x : FVec Ideal S10000x3 .f32) : FVec Ideal S10000x10000 .f32 :=
  Host.negf (subf
    (addf (broadcastInDim S10000x10000 ![0, 1] bcast_S10000x1_S10000x10000_0_1 (broadcastInDim S10000x1 ![0] bcast_S10000_S10000x1_0 (norms x)))
      (broadcastInDim S10000x10000 ![0, 1] bcast_S1x10000_S10000x10000_0_1 (broadcastInDim S1x10000 ![1] bcast_S10000_S1x10000_1 (norms x))))
    (mulf (broadcastInDim S10000x10000 ![] bcast_S_S10000x10000 (constant S_ .f32 0x40000000#32))
      (Host.dotGeneral dot_S10000x3_S3x10000_S10000x10000_1_0_0_1_n_n none x
        (transpose S3x10000 [1, 0] x transposes_S10000x3_S3x10000_1_0))))

/-- The positions of the ten greatest entries of each row. -/
def order (x : FVec Ideal S10000x3 .f32) : IVec S10000x10 32 :=
  (Host.topK S10000x10 1 (FloatOps.cmpfTotal (F := Ideal) (φ := .f32) .gt) (negDist x) sliceFits_S10000x10000_S10000x10).2

/-- One end of each edge: the point. -/
def ends0 : IVec S90000 32 :=
  shapeCast _ (broadcastInDim S10000x9 ![0] bcast_S10000_S10000x9_0 (iotaInDim S10000 32 0)) shapeCasts_S10000x9_S90000

/-- The other end of each edge: its neighbour. -/
def ends1 (x : FVec Ideal S10000x3 .f32) : IVec S90000 32 :=
  shapeCast _ (extractStridedSlice S10000x9 ![0, 1] (order x) slices_S10000x10_S10000x9_0_1) shapeCasts_S10000x9_S90000

/-- The edges both ways: where each starts. -/
def rows (x : FVec Ideal S10000x3 .f32) : IVec S180000 32 :=
  concatenate S180000 0 [⟨S90000, ends0⟩, ⟨S90000, ends1 x⟩] concatenates_S90000_S90000_S180000_d0

/-- The edges both ways: where each ends. -/
def cols (x : FVec Ideal S10000x3 .f32) : IVec S180000 32 :=
  concatenate S180000 0 [⟨S90000, ends1 x⟩, ⟨S90000, ends0⟩] concatenates_S90000_S90000_S180000_d0

/-- A negative index counts from the end. -/
def wrap90 (v : IVec S90000 32) : IVec S90000 32 :=
  select (cmpi .slt v (broadcastInDim S90000 ![] bcast_S_S90000 (constantI S_ 32 0#32)))
    (addi v (broadcastInDim S90000 ![] bcast_S_S90000 (constantI S_ 32 10000#32))) v

/-- A negative index counts from the end. -/
def wrap180 (v : IVec S180000 32) : IVec S180000 32 :=
  select (cmpi .slt v (broadcastInDim S180000 ![] bcast_S_S180000 (constantI S_ 32 0#32)))
    (addi v (broadcastInDim S180000 ![] bcast_S_S180000 (constantI S_ 32 10000#32))) v

/-- The degrees of the points whose edges start at the rows given. -/
def degOf (r : IVec S180000 32) : FVec Ideal S10000 .f32 :=
  Host.scatterAdd scatter_S10000_S180000x1_S180000_n_0_0_1 (broadcastInDim S10000 ![] bcast_S_S10000 (constant S_ .f32 0x00000000#32))
    (broadcastInDim S180000x1 ![0] bcast_S180000_S180000x1_0 r) (broadcastInDim S180000 ![] bcast_S_S180000 (constant S_ .f32 0x3F800000#32))

/-- The degrees taken at the points given. -/
def take90 (d : FVec Ideal S10000 .f32) (v : IVec S90000 32) : FVec Ideal S90000 .f32 :=
  Host.gather gather_S10000_S90000x1_S90000_n_0_n_n_0_1_1 d (broadcastInDim S90000x1 ![0] bcast_S90000_S90000x1_0 (wrap90 v))

/-- The weight of an edge from the degree of its start. -/
def weigh (d : FVec Ideal S90000 .f32) : FVec Ideal S90000 .f32 :=
  select (cmpf .ogt d (broadcastInDim S90000 ![] bcast_S_S90000 (constant S_ .f32 0x00000000#32)))
    (Host.divf (broadcastInDim S90000 ![] bcast_S_S90000 (constant S_ .f32 0x3F800000#32)) d)
    (broadcastInDim S90000 ![] bcast_S_S90000 (constant S_ .f32 0x00000000#32))

/-- The weights of the edges both ways. -/
def vals (x : FVec Ideal S10000x3 .f32) : FVec Ideal S180000 .f32 :=
  concatenate S180000 0 [⟨S90000, weigh (take90 (degOf (rows x)) ends0)⟩, ⟨S90000, weigh (take90 (degOf (rows x)) (ends1 x))⟩]
    concatenates_S90000_S90000_S180000_d0

/-- The points at the ends of the edges. -/
def take180 (x : FVec Ideal S10000x3 .f32) (v : IVec S180000 32) : FVec Ideal S180000x3 .f32 :=
  Host.gather gather_S10000x3_S180000x1_S180000x3_1_0_n_n_0_1_13 x (broadcastInDim S180000x1 ![0] bcast_S180000_S180000x1_0 (wrap180 v))

/-- What each edge adds to its start. -/
def parts (x : FVec Ideal S10000x3 .f32) : FVec Ideal S180000x3 .f32 :=
  mulf (broadcastInDim S180000x3 ![0, 1] bcast_S180000x1_S180000x3_0_1 (broadcastInDim S180000x1 ![0] bcast_S180000_S180000x1_0 (vals x)))
    (take180 x (cols x))

/-- Rows added up where the edges start. -/
def gatherUp (r : IVec S180000 32) (u : FVec Ideal S180000x3 .f32) : FVec Ideal S10000x3 .f32 :=
  Host.scatterAdd scatter_S10000x3_S180000x1_S180000x3_1_0_0_1 (broadcastInDim S10000x3 ![] bcast_S_S10000x3 (constant S_ .f32 0x00000000#32))
    (broadcastInDim S180000x1 ![0] bcast_S180000_S180000x1_0 (wrap180 r)) u

/-- The loss from the smoothed points and the points. -/
def lossTerm (z x : FVec Ideal S10000x3 .f32) : FVec Ideal S_ .f32 :=
  Host.divf (Host.reduceAdd (Host.sqrt (Host.reduceAdd (mulf (subf z x) (subf z x)) (constant S_ .f32 0x00000000#32)
      reducesTo_S10000x3_S10000_d1 h_S_)) (constant S_ .f32 0x00000000#32) reducesTo_S10000_S_d0 h_S_)
    (constant S_ .f32 0x461C4000#32)

/-- The points smoothed. -/
def smoothed (x : FVec Ideal S10000x3 .f32) : FVec Ideal S10000x3 .f32 := gatherUp (rows x) (parts x)

variable (m : (ℓ : Loc nD τ sig) → Buf (Elt Ideal) ℓ)

/-- The points the reference is given. -/
abbrev argOf (c : Dev nD) : FVec Ideal S10000x3 .f32 := m ((c.tc : Thread nD τ).loc main_arg0)

/-- The reference's result is the loss of the smoothed points. -/
theorem res_eq (c : Dev nD) : Value.res_main_v72 (F := Ideal) m c = lossTerm (smoothed (argOf m c)) (argOf m c) := rfl

/-- The last steps of the reference are the loss. -/
theorem lossTerm_apply (z x : FVec Ideal S10000x3 .f32) (j : S_.Idx) :
    lossTerm z x j = Knn.lossF (fun i q => z (ix2 i q)) (fun i q => x (ix2 i q)) := by
  pointwise [lossTerm]
  rfl

/-- An entry of the negated distances. -/
theorem negDist_apply (x : FVec Ideal S10000x3 .f32) (i j : Fin 10000) :
    (negDist x (ix2 i j) : EReal) = -(Knn.dist (fun i q => x (ix2 i q)) i j) := by
  pointwise [negDist, norms]
  rfl

/-- Entry `k` of the first ends is `k / 9`. -/
theorem ends0_apply (k : Fin 90000) : ends0 (ix1 k) = BitVec.ofNat 32 (k.val / 9) := by
  pointwise [ends0]

/-- Entry `k` of the second ends is entry `1 + k % 9` of row `k / 9` of the order. -/
theorem ends1_apply (x : FVec Ideal S10000x3 .f32) (k : Fin 90000) :
    ends1 x (ix1 k) = order x (ix2 ⟨k.val / 9, by omega⟩ ⟨1 + k.val % 9, by omega⟩) := by
  pointwise [ends1]

/-- A point's number as a word is small. -/
theorem word_small (a : Fin 10000) : (BitVec.ofNat 32 a.val).toNat < 2 ^ 31 := by
  have := a.isLt
  simp only [BitVec.toNat_ofNat]
  omega

/-- A point's number is not negative, so it stays as it is. -/
theorem wrap90_apply (v : IVec S90000 32) (k : Fin 90000) (a : Fin 10000) (h : v (ix1 k) = BitVec.ofNat 32 a.val) :
    wrap90 v (ix1 k) = BitVec.ofNat 32 a.val := by
  pointwise [wrap90]
  rw [h]
  exact Routing.wrap_of_lt _ _ (word_small a)

/-- A point's number is not negative, so it stays as it is. -/
theorem wrap180_apply (v : IVec S180000 32) (k : Fin 180000) (a : Fin 10000) (h : v (ix1 k) = BitVec.ofNat 32 a.val) :
    wrap180 v (ix1 k) = BitVec.ofNat 32 a.val := by
  pointwise [wrap180]
  rw [h]
  exact Routing.wrap_of_lt _ _ (word_small a)

/-- Taking degrees at points. -/
theorem take90_apply (d : FVec Ideal S10000 .f32) (v : IVec S90000 32) (k : Fin 90000) (a : Fin 10000) (h : v (ix1 k) = BitVec.ofNat 32 a.val) :
    take90 d v (ix1 k) = d (ix1 a) := by
  unfold take90
  refine Routing.gather_take1 _ rfl rfl rfl rfl _ _ _ a ?_ (by decide)
  refine Eq.trans ?_ (wrap90_apply v k a h)
  pointwise []

/-- Taking points by number. -/
theorem take180_apply (x : FVec Ideal S10000x3 .f32) (v : IVec S180000 32) (k : Fin 180000) (q : Fin 3) (a : Fin 10000)
    (h : v (ix1 k) = BitVec.ofNat 32 a.val) : take180 x v (ix2 k q) = x (ix2 a q) := by
  unfold take180
  refine Routing.gather_row _ rfl rfl rfl rfl rfl _ _ _ _ a ?_ (by decide)
  refine Eq.trans ?_ (wrap180_apply v k a h)
  pointwise []

/-- Of the positions `a` and `b` of row `i` the first holds the greater entry. -/
def nearer (x : FVec Ideal S10000x3 .f32) (i : Fin 10000) (a b : Fin 10000) : Bool :=
  FloatOps.cmpfTotal (F := Ideal) (φ := .f32) .gt (negDist x (ix2 i a)) (negDist x (ix2 i b)) == 1#1

/-- One position comes before another when its distance is smaller. -/
theorem nearer_iff (x : FVec Ideal S10000x3 .f32) (i a b : Fin 10000) :
    nearer x i a b = true ↔ Knn.dist (fun i q => x (ix2 i q)) i a < Knn.dist (fun i q => x (ix2 i q)) i b := by
  unfold nearer
  rw [negDist_apply, negDist_apply]
  generalize Knn.dist _ i a = u
  generalize Knn.dist _ i b = v
  show (BitVec.ofBool (decide (-v < -u)) == 1#1) = true ↔ u < v
  rw [← EReal.neg_lt_neg_iff (a := v) (b := u)]
  by_cases h : -v < -u
  · simp [h]
  · simp [h]

/-- The point at place `s` of the order from point `i`. -/
def knn (x : FVec Ideal S10000x3 .f32) (i s : Fin 10000) : Fin 10000 := sortedFrom (nearer x i) s

/-- The point at place `s` of the order has rank `s`. -/
theorem rank_knn (x : FVec Ideal S10000x3 .f32) (i s : Fin 10000) :
    Knn.rank (Knn.dist (fun i q => x (ix2 i q)) i) (knn x i s) = s.val :=
  Knn.rank_sortedFrom _ _ (nearer_iff x i) s

/-- The place of `(i, s)` among the whole rows. -/
def widen (i : Fin 10000) (s : Fin 10) : S10000x10000.Idx := fun a =>
  ⟨0 + ((ix2 i s : S10000x10.Idx) (a.cast sliceFits_S10000x10000_S10000x10.1.symm)).val,
    Nat.lt_of_lt_of_le (Nat.add_lt_add_left ((ix2 i s : S10000x10.Idx) _).isLt _) (sliceFits_S10000x10000_S10000x10.2 a)⟩

/-- The places of row `i` in turn. -/
theorem along_row (i : Fin 10000) (s : Fin 10) (k : Fin 10000) : Shape.Idx.along (widen i s) 1 k = ix2 i k := by
  funext a
  unfold Shape.Idx.along
  fin_cases a
  · exact Fin.ext (Nat.zero_add _)
  · rfl

/-- The last coordinate of the widened place. -/
theorem widen_last (i : Fin 10000) (s : Fin 10) : widen i s 1 = (⟨s.val, by omega⟩ : Fin 10000) := Fin.ext (Nat.zero_add _)

/-- Place `s` of row `i` in the order names the point `knn x i s`. -/
theorem order_apply (x : FVec Ideal S10000x3 .f32) (i : Fin 10000) (s : Fin 10) :
    order x (ix2 i s) = BitVec.ofNat 32 (knn x i ⟨s.val, by omega⟩).val := by
  have h : order x (ix2 i s) = BitVec.ofNat 32 (Shape.Idx.along (widen i s) 1 (sortedFrom (fun k k' =>
      FloatOps.cmpfTotal (F := Ideal) (φ := .f32) .gt (negDist x (Shape.Idx.along (widen i s) 1 k))
        (negDist x (Shape.Idx.along (widen i s) 1 k')) == 1#1) (widen i s 1)) 1).val := rfl
  have hb : (fun k k' : Fin (S10000x10000.size 1) =>
      FloatOps.cmpfTotal (F := Ideal) (φ := .f32) .gt (negDist x (Shape.Idx.along (widen i s) 1 k))
        (negDist x (Shape.Idx.along (widen i s) 1 k')) == 1#1) = nearer x i :=
    funext₂ fun k k' => congrArg₂ (fun u v => FloatOps.cmpfTotal (F := Ideal) (φ := .f32) .gt (negDist x u) (negDist x v) == 1#1)
      (along_row i s k) (along_row i s k')
  rw [h, hb]
  unfold Shape.Idx.along
  rw [Function.update_self, widen_last]
  rfl

/-- An update of the degrees lands at the point its word names. -/
theorem lands1 (r : IVec S180000x1 32) (k : Fin 180000) (i : Fin 10000) :
    scatter_S10000_S180000x1_S180000_n_0_0_1.resultIdx? (ix1 k) r = some (ix1 i) ↔ (r (ix2 k 0)).toInt = i.val := by
  refine (Routing.resultIdx?_ix1 _ (ix1 k) r i).trans ?_
  have h1 : scatter_S10000_S180000x1_S180000_n_0_0_1.start (ix1 k) r 0 = (r (ix2 k 0)).toInt := by
    unfold ScatterDims.start
    rw [dif_pos (by decide)]
    refine congrArg (fun e => (r e).toInt) (funext fun b => ?_)
    fin_cases b <;> rfl
  have h2 : scatter_S10000_S180000x1_S180000_n_0_0_1.window (ix1 k) 0 = 0 := rfl
  rw [h1, h2]
  simp

/-- An update of the rows lands at the point its word names, in its own column. -/
theorem lands3 (r : IVec S180000x1 32) (k : Fin 180000) (q q' : Fin 3) (i : Fin 10000) :
    scatter_S10000x3_S180000x1_S180000x3_1_0_0_1.resultIdx? (ix2 k q') r = some (ix2 i q) ↔ (r (ix2 k 0)).toInt = i.val ∧ q' = q := by
  refine (Routing.resultIdx?_ix2 _ (ix2 k q') r i q).trans ?_
  have h1 : scatter_S10000x3_S180000x1_S180000x3_1_0_0_1.start (ix2 k q') r 0 = (r (ix2 k 0)).toInt := by
    unfold ScatterDims.start
    rw [dif_pos (by decide)]
    refine congrArg (fun e => (r e).toInt) (funext fun b => ?_)
    fin_cases b <;> rfl
  have h2 : scatter_S10000x3_S180000x1_S180000x3_1_0_0_1.window (ix2 k q') 0 = 0 := rfl
  have h3 : scatter_S10000x3_S180000x1_S180000x3_1_0_0_1.start (ix2 k q') r 1 = 0 := rfl
  have h4 : scatter_S10000x3_S180000x1_S180000x3_1_0_0_1.window (ix2 k q') 1 = q'.val := rfl
  rw [h1, h2, h3, h4, Fin.ext_iff]
  simp

end Cert.ReferenceIdeal.Hand

end
-- ==== Proof.RefEdges.lean ====
/-
  The reference's edges, and its smoothed points as sums over the nearest neighbours.
-/
module

public import proofs.«01_k».proof.Proof.RefSteps
public import Idealize.ShloMosaic.Lib.ValueIdx

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen

/-- Neighbour `e % 9` of point `e / 9`. -/
def nbr (x : FVec Ideal S10000x3 .f32) (e : Fin 90000) : Fin 10000 := knn x ⟨e.val / 9, by omega⟩ ⟨1 + e.val % 9, by omega⟩

/-- The point of edge `e`. -/
def own (e : Fin 90000) : Fin 10000 := ⟨e.val / 9, by omega⟩

/-- One end of edge `e` is its point. -/
theorem ends0_own (e : Fin 90000) : ends0 (ix1 e) = BitVec.ofNat 32 (own e).val := ends0_apply e

/-- The other end of edge `e` is its neighbour. -/
theorem ends1_nbr (x : FVec Ideal S10000x3 .f32) (e : Fin 90000) : ends1 x (ix1 e) = BitVec.ofNat 32 (nbr x e).val :=
  (ends1_apply x e).trans (order_apply x _ _)

/-- Two vectors of 90000 one after the other. -/
def both {α : Type} (f g : Fin 90000 → α) (k : Fin 180000) : α :=
  if h : k.val < 90000 then f ⟨k.val, h⟩ else g ⟨k.val - 90000, by omega⟩

/-- The edges both ways start at the points, then at the neighbours. -/
theorem rows_apply (x : FVec Ideal S10000x3 .f32) (k : Fin 180000) : rows x (ix1 k) = BitVec.ofNat 32 (both own (nbr x) k).val := by
  pointwise [rows]
  unfold both
  split
  · exact ends0_own _
  · exact ends1_nbr x _

/-- The edges both ways end at the neighbours, then at the points. -/
theorem cols_apply (x : FVec Ideal S10000x3 .f32) (k : Fin 180000) : cols x (ix1 k) = BitVec.ofNat 32 (both (nbr x) own k).val := by
  pointwise [cols]
  unfold both
  split
  · exact ends1_nbr x _
  · exact ends0_own _

/-- The weight from a degree. -/
def weight (d : EReal) : EReal := if 0 < d then Ideal.div 1 d else 0

/-- An edge has the weight from its degree. -/
theorem weigh_apply (d : FVec Ideal S90000 .f32) (e : Fin 90000) : (weigh d (ix1 e) : EReal) = weight (d (ix1 e)) := by
  pointwise [weigh]
  rfl

/-- The weight of an edge is the weight from the degree of its start. -/
theorem vals_apply (x : FVec Ideal S10000x3 .f32) (k : Fin 180000) :
    (vals x (ix1 k) : EReal) = weight (degOf (rows x) (ix1 (both own (nbr x) k))) := by
  pointwise [vals]
  unfold both
  split
  · rw [weigh_apply, take90_apply _ _ _ _ (ends0_own _)]
  · rw [weigh_apply, take90_apply _ _ _ _ (ends1_nbr x _)]

/-- What an edge adds: the weight from the degree of its start, times the point at its end. -/
theorem parts_apply (x : FVec Ideal S10000x3 .f32) (k : Fin 180000) (q : Fin 3) :
    (parts x (ix2 k q) : EReal) = weight (degOf (rows x) (ix1 (both own (nbr x) k))) * x (ix2 (both (nbr x) own k) q) := by
  rw [← vals_apply, ← take180_apply x (cols x) k q _ (cols_apply x k)]
  pointwise [parts]

/-- An entry after adding updates where they land: itself plus the updates that land there. -/
theorem scatterAdd_eq {s si su : Shape} (d : ScatterDims s si su) (x : FVec Ideal s .f32) (idx : IVec si 32) (u : FVec Ideal su .f32) (i : s.Idx) :
    (Host.scatterAdd d x idx u i : EReal) = x i + ∑ j ∈ Finset.univ.filter (fun j => d.resultIdx? j idx = some i), (u j : EReal) := rfl

/-- A vector of words as a column. -/
theorem column_apply (r : IVec S180000 32) (k : Fin 180000) : broadcastInDim S180000x1 ![0] bcast_S180000_S180000x1_0 r (ix2 k 0) = r (ix1 k) := by
  pointwise []

/-- The word of a point, read signed, is its number. -/
theorem word_eq (a i : Fin 10000) : (BitVec.ofNat 32 a.val).toInt = (i.val : Int) ↔ a = i := by
  have := a.isLt
  rw [StableHlo.Predicate.toInt_ofNat_small _ (by omega), Fin.ext_iff]
  omega

/-- The degree of a point is the number of edges that start there. -/
theorem degOf_apply (r : IVec S180000 32) (e : Fin 180000 → Fin 10000) (h : ∀ k, r (ix1 k) = BitVec.ofNat 32 (e k).val) (i : Fin 10000) :
    (degOf r (ix1 i) : EReal) = ∑ k : Fin 180000, if e k = i then 1 else 0 := by
  unfold degOf
  rw [scatterAdd_eq, Finset.sum_filter, sum_idx1]
  have h0 : ((broadcastInDim S10000 ![] bcast_S_S10000 (constant (F := Ideal) S_ .f32 0x00000000#32)) (ix1 i) : EReal) = 0 := by
    pointwise []
  have h1 : ∀ k, ((broadcastInDim S180000 ![] bcast_S_S180000 (constant (F := Ideal) S_ .f32 0x3F800000#32)) (ix1 k) : EReal) = 1 := by
    intro k
    pointwise []
  rw [h0, zero_add]
  refine Finset.sum_congr rfl fun k _ => ?_
  rw [h1]
  exact if_congr ((lands1 _ k i).trans (by rw [column_apply, h, word_eq])) rfl rfl

/-- A point's row of the sum is the sum of the rows of the edges that start there. -/
theorem gatherUp_apply (r : IVec S180000 32) (u : FVec Ideal S180000x3 .f32) (e : Fin 180000 → Fin 10000)
    (h : ∀ k, r (ix1 k) = BitVec.ofNat 32 (e k).val) (i : Fin 10000) (q : Fin 3) :
    (gatherUp r u (ix2 i q) : EReal) = ∑ k : Fin 180000, if e k = i then (u (ix2 k q) : EReal) else 0 := by
  unfold gatherUp
  rw [scatterAdd_eq, Finset.sum_filter, sum_idx2]
  have h0 : ((broadcastInDim S10000x3 ![] bcast_S_S10000x3 (constant (F := Ideal) S_ .f32 0x00000000#32)) (ix2 i q) : EReal) = 0 := by
    pointwise []
  rw [h0, zero_add]
  refine Finset.sum_congr rfl fun k _ => ?_
  have hk : ∀ q', scatter_S10000x3_S180000x1_S180000x3_1_0_0_1.resultIdx? (ix2 k q')
      (broadcastInDim S180000x1 ![0] bcast_S180000_S180000x1_0 (wrap180 r)) = some (ix2 i q) ↔ e k = i ∧ q' = q := fun q' =>
    (lands3 _ k q q' i).trans (by rw [column_apply, wrap180_apply r k (e k) (h k), word_eq])
  rw [Finset.sum_congr rfl fun q' _ => if_congr (hk q') rfl rfl]
  by_cases he : e k = i
  · simp [he]
  · simp [he]

/-- A sum over the nine neighbours of a point is a sum over its near points. -/
theorem sum_nbr (x : FVec Ideal S10000x3 .f32) (i : Fin 10000) (g : Fin 10000 → EReal) :
    open Classical in
    ∑ s : Fin 9, g (knn x i ⟨1 + s.val, by omega⟩) = ∑ j, if Knn.Near (fun i q => x (ix2 i q)) i j then g j else 0 := by
  classical
  rw [← Finset.sum_filter]
  refine Finset.sum_bij (fun s _ => knn x i ⟨1 + s.val, by omega⟩) ?_ ?_ ?_ ?_
  · intro s _
    rw [Finset.mem_filter]
    refine ⟨Finset.mem_univ _, ?_⟩
    unfold Knn.Near
    rw [rank_knn]
    have := s.isLt
    constructor <;> simp only <;> omega
  · intro s _ s' _ hs
    have h := rank_knn x i ⟨1 + s.val, by omega⟩
    rw [hs, rank_knn] at h
    exact Fin.ext (by simp only at h; omega)
  · intro j hj
    rw [Finset.mem_filter] at hj
    obtain ⟨-, h1, h9⟩ := hj
    refine ⟨⟨Knn.rank (Knn.dist (fun i q => x (ix2 i q)) i) j - 1, by omega⟩, Finset.mem_univ _, ?_⟩
    refine Knn.rank_injective (Knn.dist (fun i q => x (ix2 i q)) i) ?_
    rw [rank_knn]
    simp only
    omega
  · intro s _
    rfl

/-- A sum over the edges that start at a point is a sum over the points near it and a sum over the points it is near to. -/
theorem sum_edges (x : FVec Ideal S10000x3 .f32) (i : Fin 10000) (f : Fin 10000 → EReal) :
    open Classical in
    (∑ k : Fin 180000, if both own (nbr x) k = i then f (both (nbr x) own k) else 0)
      = (∑ j, if Knn.Near (fun i q => x (ix2 i q)) i j then f j else 0) + ∑ j, if Knn.Near (fun i q => x (ix2 i q)) j i then f j else 0 := by
  classical
  have split : ∀ F : Fin 180000 → EReal, ∑ k, F k = (∑ e : Fin 90000, F ⟨e.val, by omega⟩) + ∑ e : Fin 90000, F ⟨90000 + e.val, by omega⟩ :=
    fun F => Fin.sum_univ_add (a := 90000) (b := 90000) F
  have pairs : ∀ F : Fin 90000 → EReal, ∑ e, F e = ∑ a : Fin 10000, ∑ s : Fin 9, F ⟨s.val + 9 * a.val, by omega⟩ := fun F => by
    rw [← Fintype.sum_prod_type' (f := fun (a : Fin 10000) (s : Fin 9) => F ⟨s.val + 9 * a.val, by omega⟩)]
    exact (Equiv.sum_comp (finProdFinEquiv (m := 10000) (n := 9)) F).symm
  have hl : ∀ (f' g' : Fin 90000 → Fin 10000) (e : Fin 90000), both f' g' ⟨e.val, by omega⟩ = f' e := fun f' g' e => dif_pos e.isLt
  have hr : ∀ (f' g' : Fin 90000 → Fin 10000) (e : Fin 90000), both f' g' ⟨90000 + e.val, by omega⟩ = g' e := fun f' g' e => by
    unfold both
    rw [dif_neg (by simp)]
    exact congrArg g' (Fin.ext (by simp))
  have ho : ∀ (a : Fin 10000) (s : Fin 9), own ⟨s.val + 9 * a.val, by omega⟩ = a := fun a s => Fin.ext (by
    show (s.val + 9 * a.val) / 9 = a.val
    omega)
  have hn : ∀ (a : Fin 10000) (s : Fin 9), nbr x ⟨s.val + 9 * a.val, by omega⟩ = knn x a ⟨1 + s.val, by omega⟩ := fun a s => by
    unfold nbr
    have e1 : (⟨(s.val + 9 * a.val) / 9, by omega⟩ : Fin 10000) = a := Fin.ext (by simp only; omega)
    have e2 : (⟨1 + (s.val + 9 * a.val) % 9, by omega⟩ : Fin 10000) = ⟨1 + s.val, by omega⟩ := Fin.ext (by simp only; omega)
    exact congrArg₂ (knn x) e1 e2
  rw [split]
  simp only [hl, hr]
  rw [pairs, pairs]
  simp only [ho, hn]
  refine congrArg₂ (· + ·) ?_ (Finset.sum_congr rfl fun a _ => ?_)
  · rw [Finset.sum_eq_single i (fun a _ ha => Finset.sum_eq_zero fun s _ => if_neg ha) (fun h => absurd (Finset.mem_univ i) h)]
    simp only [if_true]
    exact sum_nbr x i f
  · rw [sum_nbr x a (fun j => if j = i then f a else 0), Finset.sum_eq_single i (fun j _ hj => by simp [hj]) (fun h => absurd (Finset.mem_univ i) h)]
    simp

/-- The degree of a point: the points near it and the points it is near to. -/
def degree (P : Knn.Pts) (i : Fin 10000) : EReal :=
  open Classical in (∑ j, if Knn.Near P i j then 1 else 0) + ∑ j, if Knn.Near P j i then 1 else 0

/-- The reference's degrees are the degrees of the points. -/
theorem deg_apply (x : FVec Ideal S10000x3 .f32) (i : Fin 10000) :
    (degOf (rows x) (ix1 i) : EReal) = degree (fun i q => x (ix2 i q)) i :=
  (degOf_apply _ _ (rows_apply x) i).trans (sum_edges x i fun _ => 1)

/-- A smoothed point: the weight from its degree times each of the points near it and each of the points it is near to, added up. -/
theorem smoothed_apply (x : FVec Ideal S10000x3 .f32) (i : Fin 10000) (q : Fin 3) :
    open Classical in
    (smoothed x (ix2 i q) : EReal)
      = (∑ j, if Knn.Near (fun i q => x (ix2 i q)) i j then weight (degree (fun i q => x (ix2 i q)) i) * x (ix2 j q) else 0)
        + ∑ j, if Knn.Near (fun i q => x (ix2 i q)) j i then weight (degree (fun i q => x (ix2 i q)) i) * x (ix2 j q) else 0 := by
  classical
  unfold smoothed
  rw [gatherUp_apply _ _ _ (rows_apply x)]
  refine Eq.trans (Finset.sum_congr rfl fun k _ => ?_) (sum_edges x i fun j => weight (degree (fun i q => x (ix2 i q)) i) * x (ix2 j q))
  by_cases h : both own (nbr x) k = i
  · rw [if_pos h, if_pos h, parts_apply, h, deg_apply]
  · rw [if_neg h, if_neg h]

end Cert.ReferenceIdeal.Hand

end
-- ==== Proof.Agree.lean ====
/-
  Two facts on the loss: it is infinite when a coordinate is; and the mean of a point's neighbours is the same taken as a
  quotient of sums and as a sum of weighted points.
-/
module

public import proofs.«01_k».proof.Proof.KerNear
public import proofs.«01_k».proof.Proof.RefEdges

@[expose] public section

set_option maxRecDepth 16384

noncomputable section

namespace Cert.Knn

open Idealize.ShloMosaic

/-- A sum of nonnegative terms one of which is +∞ is +∞. -/
theorem sum_top {ι : Type} [Fintype ι] (f : ι → EReal) (h : ∀ i, 0 ≤ f i) (a : ι) (ha : f a = ⊤) : ∑ i, f i = ⊤ := by
  refine top_unique ?_
  rw [← ha]
  exact Finset.single_le_sum (fun i _ => h i) (Finset.mem_univ a)

/-- A square is nonnegative. -/
theorem sq_nonneg' (x : EReal) : 0 ≤ x * x := by
  induction x using EReal.rec with
  | bot => simp
  | top => simp
  | coe r => rw [← EReal.coe_mul]; exact EReal.coe_nonneg.mpr (mul_self_nonneg r)

/-- The difference to an infinite number is infinite. -/
theorem sq_sub_top (x y : EReal) (h : y = ⊤ ∨ y = ⊥) : (x - y) * (x - y) = ⊤ := by
  rcases h with rfl | rfl
  · have : x - ⊤ = ⊥ := by rw [sub_eq_add_neg, EReal.neg_top, EReal.add_bot]
    rw [this]; rfl
  · induction x using EReal.rec with
    | bot => rw [show (⊥ : EReal) - ⊥ = ⊥ from rfl]; rfl
    | top => rw [show (⊤ : EReal) - ⊥ = ⊤ from rfl]; rfl
    | coe r => rw [EReal.coe_sub_bot]; rfl

/-- The square root of a nonnegative number is nonnegative. -/
theorem sqrt_nonneg' (x : EReal) (h : 0 ≤ x) : 0 ≤ Ideal.sqrt x := by
  induction x using EReal.rec with
  | bot => simp at h
  | top => exact le_top
  | coe r =>
    have hr : 0 ≤ r := EReal.coe_nonneg.mp h
    show 0 ≤ (if r < 0 then ⊥ else (Real.sqrt r : EReal))
    rw [if_neg (not_lt.mpr hr)]
    exact EReal.coe_nonneg.mpr (Real.sqrt_nonneg r)

/-- The divisor of the mean is 10000. -/
theorem count_eq : Ideal.ofBits .f32 1176256512#32 = ((10000 : ℝ) : EReal) := by
  simp [Ideal.ofBits, Ideal.ieee, -EReal.coe_mul]; norm_num

/-- A point with an infinite coordinate makes the loss +∞, whatever the smoothed points are. -/
theorem lossF_top (X P : Pts) (i : Fin 10000) (q : Fin 3) (h : P i q = ⊤ ∨ P i q = ⊥) : lossF X P = ⊤ := by
  have hrow : ∑ q, (X i q - P i q) * (X i q - P i q) = ⊤ := sum_top _ (fun q => sq_nonneg' _) q (sq_sub_top _ _ h)
  have hsum : ∑ i, Ideal.sqrt (∑ q, (X i q - P i q) * (X i q - P i q)) = ⊤ :=
    sum_top _ (fun i => sqrt_nonneg' _ (Finset.sum_nonneg fun q _ => sq_nonneg' _)) i (by rw [hrow]; rfl)
  unfold lossF
  rw [hsum, count_eq]
  unfold Ideal.div
  rw [if_neg (by simp)]
  rw [← EReal.coe_inv]
  exact EReal.top_mul_coe_of_pos (by norm_num)

open Classical in
/-- Weighing each neighbour by one over their number and adding up is adding up and dividing by their number. -/
theorem mean_eq (A B : Fin 10000 → Prop) (hA : ∃ j, A j) (p : Fin 10000 → ℝ) (D : EReal)
    (hD : D = (∑ j, if A j then 1 else 0) + ∑ j, if B j then 1 else 0) :
    (∑ j, if A j then Cert.ReferenceIdeal.Hand.weight D * (p j : EReal) else 0) + (∑ j, if B j then Cert.ReferenceIdeal.Hand.weight D * (p j : EReal) else 0)
      = Ideal.div ((∑ j, if A j then (p j : EReal) else 0) + ∑ j, if B j then (p j : EReal) else 0) D := by
  have hc : ∀ (C : Fin 10000 → Prop) (f : Fin 10000 → ℝ), (∑ j, if C j then (f j : EReal) else 0) = ((∑ j, if C j then f j else 0 : ℝ) : EReal) := fun C f => by
    rw [coe_sum]
    refine Finset.sum_congr rfl fun j _ => ?_
    split
    · rfl
    · exact EReal.coe_zero.symm
  obtain ⟨d, hd, hpos⟩ : ∃ d : ℝ, D = (d : EReal) ∧ 0 < d := by
    refine ⟨(∑ j, if A j then 1 else 0) + ∑ j, if B j then 1 else 0, ?_, ?_⟩
    · rw [hD, EReal.coe_add, ← hc, ← hc]
      rfl
    · obtain ⟨j, hj⟩ := hA
      refine add_pos_of_pos_of_nonneg ?_ (Finset.sum_nonneg fun j _ => by split <;> norm_num)
      exact Finset.sum_pos' (fun j _ => by split <;> norm_num) ⟨j, Finset.mem_univ _, by rw [if_pos hj]; norm_num⟩
  have hdiv : ∀ x : ℝ, Ideal.div (x : EReal) (d : EReal) = ((x / d : ℝ) : EReal) := fun x => by
    unfold Ideal.div
    rw [if_neg (by rw [EReal.coe_eq_zero]; exact hpos.ne'), ← EReal.coe_inv, ← EReal.coe_mul, div_eq_mul_inv]
  have hw : Cert.ReferenceIdeal.Hand.weight D = ((1 / d : ℝ) : EReal) := by
    unfold Cert.ReferenceIdeal.Hand.weight
    rw [hd, if_pos (EReal.coe_pos.mpr hpos), ← hdiv]
    rfl
  rw [hw, hd]
  simp only [← EReal.coe_mul]
  rw [hc, hc, hc, hc, ← EReal.coe_add, ← EReal.coe_add, hdiv]
  refine congrArg _ ?_
  rw [add_div, Finset.sum_div, Finset.sum_div]
  refine congrArg₂ (· + ·) (Finset.sum_congr rfl fun j _ => ?_) (Finset.sum_congr rfl fun j _ => ?_) <;>
  · split
    · ring
    · simp

/-- Every point has a point near it. -/
theorem exists_near (P : Pts) (i : Fin 10000) : ∃ j, Near P i j := by
  obtain ⟨j, hj⟩ := exists_rank (dist P i) 1 (by norm_num)
  refine ⟨j, ?_⟩
  unfold Near
  rw [hj]
  constructor <;> norm_num

end Cert.Knn

namespace Cert.KernelIdeal.Hand

open Idealize.ShloMosaic Idealize.ShloMosaic.TcCoe Idealize.ShloMosaic.Tactic
open Cert.KernelIdeal Cert.KernelIdeal.Gen
open Cert.Knn

variable (m : (ℓ : Loc nD τ sig) → Buf (Elt Ideal) ℓ)

open Classical in
/-- The kernel's sums over the padded rows are sums over the points near and the points near to. -/
theorem tot_eq (c : Dev nD) (p : Fin 10000 → Fin 3 → ℝ) (hp : pts m c = lift p) (hd : ∀ i j, i ≠ j → ∃ q, p i q ≠ p j q)
    (i : Fin 10000) (q : Fin 4) :
    tot m c (up i) q = (∑ j, if Near (lift p) i j then wt m c (up j) q else 0) + ∑ j, if Near (lift p) j i then wt m c (up j) q else 0 := by
  have hpick := pick_eq m c p hp hd
  unfold tot
  rw [sum_rows (fun j => pick m c (up i) j * wt m c j q) (fun n hn => by
      rw [hpick, if_neg (by rintro ⟨_, h, -⟩; exact hn h)]; exact zero_mul _),
    sum_rows (fun n => pick m c n (up i) * wt m c n q) (fun n hn => by
      rw [hpick, if_neg (by rintro ⟨h, -⟩; exact hn h)]; exact zero_mul _)]
  have hcond : ∀ a b : Fin 10000, (∃ (h : (up a).val < 10000) (h' : (up b).val < 10000), Near (lift p) ⟨(up a).val, h⟩ ⟨(up b).val, h'⟩)
      ↔ Near (lift p) a b := fun a b => ⟨fun ⟨_, _, h⟩ => h, fun h => ⟨a.isLt, b.isLt, h⟩⟩
  refine congrArg₂ (· + ·) (Finset.sum_congr rfl fun j _ => ?_) (Finset.sum_congr rfl fun j _ => ?_)
  · rw [hpick, if_congr (hcond i j) rfl rfl]
    split
    · exact one_mul _
    · exact zero_mul _
  · rw [hpick, if_congr (hcond j i) rfl rfl]
    split
    · exact one_mul _
    · exact zero_mul _

/-- In the first three columns the weights of a row are the coordinates of its point. -/
theorem wt_point (c : Dev nD) (j : Fin 10000) (q : Fin 3) : wt m c (up j) (up3 q) = pts m c j q := by
  unfold wt
  rw [padded_point m c (up j) j.isLt q]
  have : one3 (up3 q) = 0 := by unfold one3 up3; fin_cases q <;> rfl
  rw [this, add_zero]

/-- In the fourth column the weight of a row is one. -/
theorem wt_one (c : Dev nD) (j : Fin 10000) : wt m c (up j) 3 = 1 := by
  unfold wt
  rw [padded_fourth]
  exact zero_add _

/-- At pairwise distinct points the kernel's loss is the reference's. -/
theorem losses_eq (c : Dev nD) (hd : ∀ i j, i ≠ j → ∃ q, pts m c i q ≠ pts m c j q) :
    lossF (smooth m c) (pts m c)
      = lossF (fun i q => Cert.ReferenceIdeal.Hand.smoothed (argOf m c) (ix2 i q)) (pts m c) := by
  classical
  by_cases hinf : ∃ i q, pts m c i q = ⊤ ∨ pts m c i q = ⊥
  · obtain ⟨i, q, h⟩ := hinf
    rw [lossF_top _ _ i q h, lossF_top _ _ i q h]
  · have hfin : ∀ i q, pts m c i q ≠ ⊤ ∧ pts m c i q ≠ ⊥ := fun i q => not_or.mp fun h => hinf ⟨i, q, h⟩
    have hp : pts m c = lift fun i q => (pts m c i q).toReal :=
      funext fun i => funext fun q => (EReal.coe_toReal (hfin i q).1 (hfin i q).2).symm
    generalize hr : (fun i q => (pts m c i q).toReal : Fin 10000 → Fin 3 → ℝ) = p at hp
    have hd' : ∀ i j, i ≠ j → ∃ q, p i q ≠ p j q := fun i j hij => by
      obtain ⟨q, hq⟩ := hd i j hij
      refine ⟨q, fun h => hq ?_⟩
      rw [hp]
      exact congrArg _ h
    refine congrArg (fun X => lossF X (pts m c)) (funext fun i => funext fun q => ?_)
    have hx : (fun i q => argOf m c (ix2 i q) : Pts) = lift p := hp
    have hq : ∀ j, (argOf m c (ix2 j q) : EReal) = (p j q : EReal) := fun j => congrFun (congrFun hp j) q
    show smooth m c i q = Cert.ReferenceIdeal.Hand.smoothed (argOf m c) (ix2 i q)
    rw [Cert.ReferenceIdeal.Hand.smoothed_apply, hx]
    simp only [hq]
    rw [mean_eq (fun j => Near (lift p) i j) (fun j => Near (lift p) j i) (exists_near _ i) (fun j => p j q)
      (Cert.ReferenceIdeal.Hand.degree (lift p) i) rfl]
    unfold smooth
    rw [tot_eq m c p hp hd', tot_eq m c p hp hd']
    simp only [wt_point, wt_one, hp]
    rfl

end Cert.KernelIdeal.Hand

end
-- ==== Proof.lean ====
/- The certificate's claims, assembled from the modules of proof/Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_distinct
public import proofs.«01_k».proof.Proof.KernelFrame
public import proofs.«01_k».proof.Proof.RefFrame
public import proofs.«01_k».proof.Proof.PreRead
public import proofs.«01_k».proof.Proof.Agree
public import Idealize.ShloMosaic.Adequacy
public import Idealize.ShloMosaic.Init

@[expose] public section

noncomputable section

namespace Cert.Proof

open Idealize.ShloMosaic Idealize.SL.Sem Cert.Kernel

/-- At pairwise distinct points the ideal kernel and the reference end with the same loss, the points unchanged. -/
theorem algebraic : Cert.algebraic_KernelIdeal_ReferenceIdeal_pre_distinct (hKernelIdeal := Cert.KernelIdeal.Gen.facts)
    (hReferenceIdeal := Cert.ReferenceIdeal.Gen.facts) (hPre_distinct := Cert.Pre_distinct.Gen.facts) := by
  intro m g m' g' hpre harg
  refine ⟨fun c => Cert.KernelIdeal.Hand.lossScalar m c, Cert.KernelIdeal.Hand.run m g, ?_⟩
  refine (θ_run _ _ _).mono (fun r h c => ⟨(h c).1.trans ?_, (h c).2⟩) (Cert.ReferenceIdeal.Value.run m' g')
  have hx : Cert.ReferenceIdeal.Hand.argOf m' c = Cert.KernelIdeal.Hand.argOf m c := harg c
  rw [Cert.ReferenceIdeal.Hand.res_eq, hx]
  funext j
  rw [Cert.ReferenceIdeal.Hand.lossTerm_apply]
  refine (Cert.KernelIdeal.Hand.losses_eq m c fun i j hij =>
    Cert.Pre_distinct.distinct_of _ (hpre c) i j hij).symm.trans ?_
  rw [← Cert.KernelIdeal.Hand.lossOf_apply]
  unfold Cert.KernelIdeal.Hand.lossScalar
  pointwise []

/-- All the claims: the frames, that the ideal kernel is the kernel's own program, and that it computes the reference's loss. -/
theorem claim : Cert.Claim := ⟨Cert.Kernel.Gen.facts, Cert.KernelIdeal.Gen.facts, Cert.ReferenceIdeal.Gen.facts, Cert.Pre_distinct.Gen.facts,
  fun m ρ _ => Cert.Kernel.Hand.frame m ρ, fun m ρ _ => Cert.KernelIdeal.Hand.frame m ρ,
  fun m ρ _ => Cert.KernelIdeal.Hand.frame m ρ, fun m ρ _ => Cert.ReferenceIdeal.Hand.frame m ρ,
  fun m ρ _ => Cert.ReferenceIdeal.Hand.frame m ρ, trivial, algebraic⟩

end Cert.Proof

end
